-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "inv31" .f32 0x3D042108#32 ((31⁻¹ : ℝ) : EReal)
  ∧ IdealRules.named_const.Statement Cert.KernelIdeal.κ "mask" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v612) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x8x32 : Shape := ⟨3, ![2048, 8, 32]⟩
abbrev S32 : Shape := ⟨1, ![32]⟩
abbrev S4x32x8 : Shape := ⟨3, ![4, 32, 8]⟩
abbrev S4x2x32x8 : Shape := ⟨4, ![4, 2, 32, 8]⟩
abbrev S32x32 : Shape := ⟨2, ![32, 32]⟩
abbrev S32x8 : Shape := ⟨2, ![32, 8]⟩
abbrev S8 : Shape := ⟨1, ![8]⟩
abbrev S8x32x128 : Shape := ⟨3, ![8, 32, 128]⟩
abbrev S8x128 : Shape := ⟨2, ![8, 128]⟩
abbrev S8x128x128 : Shape := ⟨3, ![8, 128, 128]⟩
abbrev S8x128x32 : Shape := ⟨3, ![8, 128, 32]⟩
abbrev S8x32 : Shape := ⟨2, ![8, 32]⟩
abbrev S_ : Shape := ⟨0, ![]⟩

class Facts : Prop where
  bcast_S_S2048x8x32 : S_.BroadcastsInDim S2048x8x32 (![] : Fin 0 → Fin S2048x8x32.rank)
  reducesTo_S2048x8x32_S_d0_1_2 : S2048x8x32.ReducesTo [0, 1, 2] S_
  h_S_ : 0 < S_.numel
  bcast_S_S32 : S_.BroadcastsInDim S32 (![] : Fin 0 → Fin S32.rank)
  reducesTo_S32_S_d0 : S32.ReducesTo [0] S_
  bcast_S_S4x32x8 : S_.BroadcastsInDim S4x32x8 (![] : Fin 0 → Fin S4x32x8.rank)
  reducesTo_S4x32x8_S_d0_1_2 : S4x32x8.ReducesTo [0, 1, 2] S_
  bcast_S_S4x2x32x8 : S_.BroadcastsInDim S4x2x32x8 (![] : Fin 0 → Fin S4x2x32x8.rank)
  reducesTo_S4x2x32x8_S_d0_1_2_3 : S4x2x32x8.ReducesTo [0, 1, 2, 3] S_
  bcast_S_S32x32 : S_.BroadcastsInDim S32x32 (![] : Fin 0 → Fin S32x32.rank)
  reducesTo_S32x32_S_d0_1 : S32x32.ReducesTo [0, 1] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S8x32x128 : S_.BroadcastsInDim S8x32x128 (![] : Fin 0 → Fin S8x32x128.rank)
  reducesTo_S8x32x128_S_d0_1_2 : S8x32x128.ReducesTo [0, 1, 2] S_
  bcast_S_S8x128 : S_.BroadcastsInDim S8x128 (![] : Fin 0 → Fin S8x128.rank)
  reducesTo_S8x128_S_d0_1 : S8x128.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128x32 : S_.BroadcastsInDim S8x128x32 (![] : Fin 0 → Fin S8x128x32.rank)
  reducesTo_S8x128x32_S_d0_1_2 : S8x128x32.ReducesTo [0, 1, 2] S_
  bcast_S_S8x32 : S_.BroadcastsInDim S8x32 (![] : Fin 0 → Fin S8x32.rank)
  reducesTo_S8x32_S_d0_1 : S8x32.ReducesTo [0, 1] S_

variable [Facts]

def fn_part6 {F : FTy → Type} [FloatOps F] (main_v98 : IVec S_ 1) (main_v101 : IVec S8x32 1) (main_c_39 : IVec S_ 1) : IVec S_ 1 :=
  let main_v102 : IVec S_ 1 := (fun x v => Host.reduce IntOp.andi x v reducesTo_S8x32_S_d0_1 h_S_) main_v101 main_c_39
  let main_v103 : IVec S_ 1 := andi main_v98 main_v102
  main_v103

def fn_part5 {F : FTy → Type} [FloatOps F] (main_arg18 : FVec F S8x128 .f32) (main_arg19 : FVec F S8x128x32 .f32) (main_arg20 : FVec F S8x32 .f32) (main_v83 : IVec S_ 1) (main_v84 : FVec F S8x128x128 .f32) (main_cst_32 : FVec F S_ .f32) : IVec S_ 1 :=
  let main_v85 : FVec F S8x128x128 .f32 := broadcastInDim S8x128x128 ![] bcast_S_S8x128x128 main_cst_32
  let main_v86 : IVec S8x128x128 1 := cmpf .olt main_v84 main_v85
  let main_c_33 : IVec S_ 1 := constantI S_ 1 1#1
  let main_v87 : IVec S_ 1 := (fun x v => Host.reduce IntOp.andi x v reducesTo_S8x128x128_S_d0_1_2 h_S_) main_v86 main_c_33
  let main_v88 : IVec S_ 1 := andi main_v83 main_v87
  let main_v89 : FVec F S8x128 .f32 := Host.absf main_arg18
  let main_cst_34 : FVec F S_ .f32 := constant S_ .f32 0x7F800000#32
  let main_v90 : FVec F S8x128 .f32 := broadcastInDim S8x128 ![] bcast_S_S8x128 main_cst_34
  let main_v91 : IVec S8x128 1 := cmpf .olt main_v89 main_v90
  let main_c_35 : IVec S_ 1 := constantI S_ 1 1#1
  let main_v92 : IVec S_ 1 := (fun x v => Host.reduce IntOp.andi x v reducesTo_S8x128_S_d0_1 h_S_) main_v91 main_c_35
  let main_v93 : IVec S_ 1 := andi main_v88 main_v92
  let main_v94 : FVec F S8x128x32 .f32 := Host.absf main_arg19
  let main_cst_36 : FVec F S_ .f32 := constant S_ .f32 0x7F800000#32
  let main_v95 : FVec F S8x128x32 .f32 := broadcastInDim S8x128x32 ![] bcast_S_S8x128x32 main_cst_36
  let main_v96 : IVec S8x128x32 1 := cmpf .olt main_v94 main_v95
  let main_c_37 : IVec S_ 1 := constantI S_ 1 1#1
  let main_v97 : IVec S_ 1 := (fun x v => Host.reduce IntOp.andi x v reducesTo_S8x128x32_S_d0_1_2 h_S_) main_v96 main_c_37
  let main_v98 : IVec S_ 1 := andi main_v93 main_v97
  let main_v99 : FVec F S8x32 .f32 := Host.absf main_arg20
  let main_cst_38 : FVec F S_ .f32 := constant S_ .f32 0x7F800000#32
  let main_v100 : FVec F S8x32 .f32 := broadcastInDim S8x32 ![] bcast_S_S8x32 main_cst_38
  let main_v101 : IVec S8x32 1 := cmpf .olt main_v99 main_v100
  let main_c_39 : IVec S_ 1 := constantI S_ 1 1#1
  fn_part6 (F := F) main_v98 main_v101 main_c_39

def fn_part4 {F : FTy → Type} [FloatOps F] (main_arg14 : FVec F S8x128x128 .f32) (main_arg15 : FVec F S8x128 .f32) (main_arg16 : FVec F S8 .f32) (main_arg17 : FVec F S8x128x128 .f32) (main_arg18 : FVec F S8x128 .f32) (main_arg19 : FVec F S8x128x32 .f32) (main_arg20 : FVec F S8x32 .f32) (main_v63 : IVec S_ 1) (main_v67 : IVec S_ 1) : IVec S_ 1 :=
  let main_v68 : IVec S_ 1 := andi main_v63 main_v67
  let main_v69 : FVec F S8x128x128 .f32 := Host.absf main_arg14
  let main_cst_26 : FVec F S_ .f32 := constant S_ .f32 0x7F800000#32
  let main_v70 : FVec F S8x128x128 .f32 := broadcastInDim S8x128x128 ![] bcast_S_S8x128x128 main_cst_26
  let main_v71 : IVec S8x128x128 1 := cmpf .olt main_v69 main_v70
  let main_c_27 : IVec S_ 1 := constantI S_ 1 1#1
  let main_v72 : IVec S_ 1 := (fun x v => Host.reduce IntOp.andi x v reducesTo_S8x128x128_S_d0_1_2 h_S_) main_v71 main_c_27
  let main_v73 : IVec S_ 1 := andi main_v68 main_v72
  let main_v74 : FVec F S8x128 .f32 := Host.absf main_arg15
  let main_cst_28 : FVec F S_ .f32 := constant S_ .f32 0x7F800000#32
  let main_v75 : FVec F S8x128 .f32 := broadcastInDim S8x128 ![] bcast_S_S8x128 main_cst_28
  let main_v76 : IVec S8x128 1 := cmpf .olt main_v74 main_v75
  let main_c_29 : IVec S_ 1 := constantI S_ 1 1#1
  let main_v77 : IVec S_ 1 := (fun x v => Host.reduce IntOp.andi x v reducesTo_S8x128_S_d0_1 h_S_) main_v76 main_c_29
  let main_v78 : IVec S_ 1 := andi main_v73 main_v77
  let main_v79 : FVec F S8 .f32 := Host.absf main_arg16
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : FVec F S8x128x128 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S8 .f32) (main_arg12 : FVec F S8x32x128 .f32) (main_arg13 : FVec F S8x128 .f32) (main_arg14 : FVec F S8x128x128 .f32) (main_arg15 : FVec F S8x128 .f32) (main_arg16 : FVec F S8 .f32) (main_arg17 : FVec F S8x128x128 .f32) (main_arg18 : FVec F S8x128 .f32) (main_arg19 : FVec F S8x128x32 .f32) (main_arg20 : FVec F S8x32 .f32) (main_v48 : IVec S_ 1) (main_v49 : FVec F S32x8 .f32) (main_v50 : FVec F S32x8 .f32) : IVec S_ 1 :=
  let main_v51 : IVec S32x8 1 := cmpf .olt main_v49 main_v50
  let main_c_19 : IVec S_ 1 := constantI S_ 1 1#1
  let main_v52 : IVec S_ 1 := (fun x v => Host.reduce IntOp.andi x v reducesTo_S32x8_S_d0_1 h_S_) main_v51 main_c_19
  let main_v53 : IVec S_ 1 := andi main_v48 main_v52
  let main_v54 : FVec F S8 .f32 := Host.absf main_arg11
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S8x32x128 .f32 := Host.absf main_arg12
  let main_cst_22 : FVec F S_ .f32 := constant S_ .f32 0x7F800000#32
  let main_v60 : FVec F S8x32x128 .f32 := broadcastInDim S8x32x128 ![] bcast_S_S8x32x128 main_cst_22
  let main_v61 : IVec S8x32x128 1 := cmpf .olt main_v59 main_v60
  let main_c_23 : IVec S_ 1 := constantI S_ 1 1#1
  let main_v62 : IVec S_ 1 := (fun x v => Host.reduce IntOp.andi x v reducesTo_S8x32x128_S_d0_1_2 h_S_) main_v61 main_c_23
  let main_v63 : IVec S_ 1 := andi main_v58 main_v62
  let main_v64 : FVec F S8x128 .f32 := Host.absf main_arg13
  let main_cst_24 : FVec F S_ .f32 := constant S_ .f32 0x7F800000#32
  let main_v65 : FVec F S8x128 .f32 := broadcastInDim S8x128 ![] bcast_S_S8x128 main_cst_24
  let main_v66 : IVec S8x128 1 := cmpf .olt main_v64 main_v65
  let main_c_25 : IVec S_ 1 := constantI S_ 1 1#1
  let main_v67 : IVec S_ 1 := (fun x v => Host.reduce IntOp.andi x v reducesTo_S8x128_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S4x32x8 .f32) (main_arg8 : FVec F S32x32 .f32) (main_arg9 : FVec F S32 .f32) (main_arg10 : FVec F S32x8 .f32) (main_arg11 : FVec F S8 .f32) (main_arg12 : FVec F S8x32x128 .f32) (main_arg13 : FVec F S8x128 .f32) (main_arg14 : FVec F S8x128x128 .f32) (main_arg15 : FVec F S8x128 .f32) (main_arg16 : FVec F S8 .f32) (main_arg17 : FVec F S8x128x128 .f32) (main_arg18 : FVec F S8x128 .f32) (main_arg19 : FVec F S8x128x32 .f32) (main_arg20 : FVec F S8x32 .f32) (main_v33 : IVec S_ 1) : IVec S_ 1 :=
  let main_v34 : FVec F S4x32x8 .f32 := Host.absf main_arg7
  let main_cst_12 : FVec F S_ .f32 := constant S_ .f32 0x7F800000#32
  let main_v35 : FVec F S4x32x8 .f32 := broadcastInDim S4x32x8 ![] bcast_S_S4x32x8 main_cst_12
  let main_v36 : IVec S4x32x8 1 := cmpf .olt main_v34 main_v35
  let main_c_13 : IVec S_ 1 := constantI S_ 1 1#1
  let main_v37 : IVec S_ 1 := (fun x v => Host.reduce IntOp.andi x v reducesTo_S4x32x8_S_d0_1_2 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x8 .f32 := Host.absf main_arg10
  let main_cst_18 : FVec F S_ .f32 := constant S_ .f32 0x7F800000#32
  let main_v50 : FVec F S32x8 .f32 := broadcastInDim S32x8 ![] bcast_S_S32x8 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S32 .f32) (main_arg5 : FVec F S4x32x8 .f32) (main_arg6 : FVec F S4x2x32x8 .f32) (main_arg7 : FVec F S4x32x8 .f32) (main_arg8 : FVec F S32x32 .f32) (main_arg9 : FVec F S32 .f32) (main_arg10 : FVec F S32x8 .f32) (main_arg11 : FVec F S8 .f32) (main_arg12 : FVec F S8x32x128 .f32) (main_arg13 : FVec F S8x128 .f32) (main_arg14 : FVec F S8x128x128 .f32) (main_arg15 : FVec F S8x128 .f32) (main_arg16 : FVec F S8 .f32) (main_arg17 : FVec F S8x128x128 .f32) (main_arg18 : FVec F S8x128 .f32) (main_arg19 : FVec F S8x128x32 .f32) (main_arg20 : FVec F S8x32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S4x32x8 .f32 := Host.absf main_arg5
  let main_cst_8 : FVec F S_ .f32 := constant S_ .f32 0x7F800000#32
  let main_v25 : FVec F S4x32x8 .f32 := broadcastInDim S4x32x8 ![] bcast_S_S4x32x8 main_cst_8
  let main_v26 : IVec S4x32x8 1 := cmpf .olt main_v24 main_v25
  let main_c_9 : IVec S_ 1 := constantI S_ 1 1#1
  let main_v27 : IVec S_ 1 := (fun x v => Host.reduce IntOp.andi x v reducesTo_S4x32x8_S_d0_1_2 h_S_) main_v26 main_c_9
  let main_v28 : IVec S_ 1 := andi main_v23 main_v27
  let main_v29 : FVec F S4x2x32x8 .f32 := Host.absf main_arg6
  let main_cst_10 : FVec F S_ .f32 := constant S_ .f32 0x7F800000#32
  let main_v30 : FVec F S4x2x32x8 .f32 := broadcastInDim S4x2x32x8 ![] bcast_S_S4x2x32x8 main_cst_10
  let main_v31 : IVec S4x2x32x8 1 := cmpf .olt main_v29 main_v30
  let main_c_11 : IVec S_ 1 := constantI S_ 1 1#1
  let main_v32 : IVec S_ 1 := (fun x v => Host.reduce IntOp.andi x v reducesTo_S4x2x32x8_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S2048x8x32 .f32) (main_arg1 : FVec F S32 .f32) (main_arg2 : FVec F S32 .f32) (main_arg3 : FVec F S32 .f32) (main_arg4 : FVec F S32 .f32) (main_arg5 : FVec F S4x32x8 .f32) (main_arg6 : FVec F S4x2x32x8 .f32) (main_arg7 : FVec F S4x32x8 .f32) (main_arg8 : FVec F S32x32 .f32) (main_arg9 : FVec F S32 .f32) (main_arg10 : FVec F S32x8 .f32) (main_arg11 : FVec F S8 .f32) (main_arg12 : FVec F S8x32x128 .f32) (main_arg13 : FVec F S8x128 .f32) (main_arg14 : FVec F S8x128x128 .f32) (main_arg15 : FVec F S8x128 .f32) (main_arg16 : FVec F S8 .f32) (main_arg17 : FVec F S8x128x128 .f32) (main_arg18 : FVec F S8x128 .f32) (main_arg19 : FVec F S8x128x32 .f32) (main_arg20 : FVec F S8x32 .f32) : IVec S_ 1 :=
  let main_v0 : FVec F S2048x8x32 .f32 := Host.absf main_arg0
  let main_cst : FVec F S_ .f32 := constant S_ .f32 0x7F800000#32
  let main_v1 : FVec F S2048x8x32 .f32 := broadcastInDim S2048x8x32 ![] bcast_S_S2048x8x32 main_cst
  let main_v2 : IVec S2048x8x32 1 := cmpf .olt main_v0 main_v1
  let main_c : IVec S_ 1 := constantI S_ 1 1#1
  let main_v3 : IVec S_ 1 := (fun x v => Host.reduce IntOp.andi x v reducesTo_S2048x8x32_S_d0_1_2 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S2048x8x32 : Shape := ⟨3, ![2048, 8, 32]⟩
abbrev S32 : Shape := ⟨1, ![32]⟩
abbrev S4x32x8 : Shape := ⟨3, ![4, 32, 8]⟩
abbrev S4x2x32x8 : Shape := ⟨4, ![4, 2, 32, 8]⟩
abbrev S32x32 : Shape := ⟨2, ![32, 32]⟩
abbrev S32x8 : Shape := ⟨2, ![32, 8]⟩
abbrev S8 : Shape := ⟨1, ![8]⟩
abbrev S8x32x128 : Shape := ⟨3, ![8, 32, 128]⟩
abbrev S8x128 : Shape := ⟨2, ![8, 128]⟩
abbrev S8x128x128 : Shape := ⟨3, ![8, 128, 128]⟩
abbrev S8x128x32 : Shape := ⟨3, ![8, 128, 32]⟩
abbrev S8x32 : Shape := ⟨2, ![8, 32]⟩
abbrev S8x256x8x32 : Shape := ⟨4, ![8, 256, 8, 32]⟩
abbrev S8x32x8x256 : Shape := ⟨4, ![8, 32, 8, 256]⟩
abbrev S_ : Shape := ⟨0, ![]⟩
abbrev S4x8x32 : Shape := ⟨3, ![4, 8, 32]⟩
abbrev S96x32 : Shape := ⟨2, ![96, 32]⟩
abbrev S8x128x256 : Shape := ⟨3, ![8, 128, 256]⟩
abbrev S8x256x128 : Shape := ⟨3, ![8, 256, 128]⟩
abbrev S8x256 : Shape := ⟨2, ![8, 256]⟩
abbrev S8x256x1 : Shape := ⟨3, ![8, 256, 1]⟩
abbrev S32x1 : Shape := ⟨2, ![32, 1]⟩
abbrev S8x1 : Shape := ⟨2, ![8, 1]⟩
abbrev S8x128x1 : Shape := ⟨3, ![8, 128, 1]⟩
abbrev S8x1x1 : Shape := ⟨3, ![8, 1, 1]⟩
abbrev S1x32x8x256 : Shape := ⟨4, ![1, 32, 8, 256]⟩
abbrev S32x8x256 : Shape := ⟨3, ![32, 8, 256]⟩
abbrev S32x2048 : Shape := ⟨2, ![32, 2048]⟩
abbrev S2048 : Shape := ⟨1, ![2048]⟩
abbrev S1x2048 : Shape := ⟨2, ![1, 2048]⟩
abbrev S96x2048 : Shape := ⟨2, ![96, 2048]⟩
abbrev S96x8x256 : Shape := ⟨3, ![96, 8, 256]⟩
abbrev S8x8x1 : Shape := ⟨3, ![8, 8, 1]⟩
abbrev S1x8x256 : Shape := ⟨3, ![1, 8, 256]⟩
abbrev S8x1x256 : Shape := ⟨3, ![8, 1, 256]⟩
abbrev S8x8x256 : Shape := ⟨3, ![8, 8, 256]⟩
abbrev S8x2048 : Shape := ⟨2, ![8, 2048]⟩
abbrev S256 : Shape := ⟨1, ![256]⟩
abbrev S1x256 : Shape := ⟨2, ![1, 256]⟩
abbrev S1x128x32 : Shape := ⟨3, ![1, 128, 32]⟩
abbrev S128x32 : Shape := ⟨2, ![128, 32]⟩
abbrev S128x2048 : Shape := ⟨2, ![128, 2048]⟩
abbrev S1x128x1 : Shape := ⟨3, ![1, 128, 1]⟩
abbrev S128x1 : Shape := ⟨2, ![128, 1]⟩
abbrev S1x256x128 : Shape := ⟨3, ![1, 256, 128]⟩
abbrev S256x128 : Shape := ⟨2, ![256, 128]⟩
abbrev S256x2048 : Shape := ⟨2, ![256, 2048]⟩
abbrev S1x256x1 : Shape := ⟨3, ![1, 256, 1]⟩
abbrev S256x1 : Shape := ⟨2, ![256, 1]⟩
abbrev S1x1x1 : Shape := ⟨3, ![1, 1, 1]⟩
abbrev S1x1 : Shape := ⟨2, ![1, 1]⟩
abbrev S1x32x128 : Shape := ⟨3, ![1, 32, 128]⟩
abbrev S32x128 : Shape := ⟨2, ![32, 128]⟩

abbrev nBuf : Space → Nat
  | .hbm => 55
  | .vmem => 20
  | .smem => 0
  | _ => 0

abbrev bufTy : (tb : Table) → Fin (tcTables nBuf tb) → BufTy
  | .hbm, ⟨0, _⟩ => ⟨S2048x8x32, .f32⟩
  | .hbm, ⟨1, _⟩ => ⟨S32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S4x32x8, .f32⟩
  | .hbm, ⟨6, _⟩ => ⟨S4x2x32x8, .f32⟩
  | .hbm, ⟨7, _⟩ => ⟨S4x32x8, .f32⟩
  | .hbm, ⟨8, _⟩ => ⟨S32x32, .f32⟩
  | .hbm, ⟨9, _⟩ => ⟨S32, .f32⟩
  | .hbm, ⟨10, _⟩ => ⟨S32x8, .f32⟩
  | .hbm, ⟨11, _⟩ => ⟨S8, .f32⟩
  | .hbm, ⟨12, _⟩ => ⟨S8x32x128, .f32⟩
  | .hbm, ⟨13, _⟩ => ⟨S8x128, .f32⟩
  | .hbm, ⟨14, _⟩ => ⟨S8x128x128, .f32⟩
  | .hbm, ⟨15, _⟩ => ⟨S8x128, .f32⟩
  | .hbm, ⟨16, _⟩ => ⟨S8, .f32⟩
  | .hbm, ⟨17, _⟩ => ⟨S8x128x128, .f32⟩
  | .hbm, ⟨18, _⟩ => ⟨S8x128, .f32⟩
  | .hbm, ⟨19, _⟩ => ⟨S8x128x32, .f32⟩
  | .hbm, ⟨20, _⟩ => ⟨S8x32, .f32⟩
  | .hbm, ⟨21, _⟩ => ⟨S8x256x8x32, .f32⟩
  | .hbm, ⟨22, _⟩ => ⟨S8x32x8x256, .f32⟩
  | .hbm, ⟨23, _⟩ => ⟨S_, .f32⟩
  | .hbm, ⟨24, _⟩ => ⟨S4x32x8, .f32⟩
  | .hbm, ⟨25, _⟩ => ⟨S4x8x32, .f32⟩
  | .hbm, ⟨26, _⟩ => ⟨S32x32, .f32⟩
  | .hbm, ⟨27, _⟩ => ⟨S4x8x32, .f32⟩
  | .hbm, ⟨28, _⟩ => ⟨S32x32, .f32⟩
  | .hbm, ⟨29, _⟩ => ⟨S4x8x32, .f32⟩
  | .hbm, ⟨30, _⟩ => ⟨S32x32, .f32⟩
  | .hbm, ⟨31, _⟩ => ⟨S96x32, .f32⟩
  | .hbm, ⟨32, _⟩ => ⟨S8x128x256, .f32⟩
  | .hbm, ⟨33, _⟩ => ⟨S8x256x128, .f32⟩
  | .hbm, ⟨34, _⟩ => ⟨S8x256, .f32⟩
  | .hbm, ⟨35, _⟩ => ⟨S8x256x1, .f32⟩
  | .hbm, ⟨36, _⟩ => ⟨S32x1, .f32⟩
  | .hbm, ⟨37, _⟩ => ⟨S32x1, .f32⟩
  | .hbm, ⟨38, _⟩ => ⟨S32x1, .f32⟩
  | .hbm, ⟨39, _⟩ => ⟨S32x1, .f32⟩
  | .hbm, ⟨40, _⟩ => ⟨S32x32, .f32⟩
  | .hbm, ⟨41, _⟩ => ⟨S32x1, .f32⟩
  | .hbm, ⟨42, _⟩ => ⟨S8x32, .f32⟩
  | .hbm, ⟨43, _⟩ => ⟨S8x1, .f32⟩
  | .hbm, ⟨44, _⟩ => ⟨S8x128x32, .f32⟩
  | .hbm, ⟨45, _⟩ => ⟨S8x128x32, .bf16⟩
  | .hbm, ⟨46, _⟩ => ⟨S8x128x1, .f32⟩
  | .hbm, ⟨47, _⟩ => ⟨S8x256x128, .bf16⟩
  | .hbm, ⟨48, _⟩ => ⟨S8x1x1, .f32⟩
  | .hbm, ⟨49, _⟩ => ⟨S8x32x128, .f32⟩
  | .hbm, ⟨50, _⟩ => ⟨S8x32x128, .bf16⟩
  | .hbm, ⟨51, _⟩ => ⟨S32x8, .f32⟩
  | .hbm, ⟨52, _⟩ => ⟨S8x32x8x256, .f32⟩
  | .hbm, ⟨53, _⟩ => ⟨S8x256x8x32, .f32⟩
  | .hbm, ⟨54, _⟩ => ⟨S2048x8x32, .f32⟩
  | .local _ .vmem, ⟨0, _⟩ => ⟨S1x32x8x256, .f32⟩
  | .local _ .vmem, ⟨1, _⟩ => ⟨S1x32x8x256, .f32⟩
  | .local _ .vmem, ⟨2, _⟩ => ⟨S32x1, .f32⟩
  | .local _ .vmem, ⟨3, _⟩ => ⟨S32x1, .f32⟩
  | .local _ .vmem, ⟨4, _⟩ => ⟨S32x1, .f32⟩
  | .local _ .vmem, ⟨5, _⟩ => ⟨S32x1, .f32⟩
  | .local _ .vmem, ⟨6, _⟩ => ⟨S96x32, .f32⟩
  | .local _ .vmem, ⟨7, _⟩ => ⟨S32x32, .f32⟩
  | .local _ .vmem, ⟨8, _⟩ => ⟨S32x1, .f32⟩
  | .local _ .vmem, ⟨9, _⟩ => ⟨S8x32, .f32⟩
  | .local _ .vmem, ⟨10, _⟩ => ⟨S8x1, .f32⟩
  | .local _ .vmem, ⟨11, _⟩ => ⟨S8x128x32, .bf16⟩
  | .local _ .vmem, ⟨12, _⟩ => ⟨S8x128x1, .f32⟩
  | .local _ .vmem, ⟨13, _⟩ => ⟨S8x256x128, .bf16⟩
  | .local _ .vmem, ⟨14, _⟩ => ⟨S8x256x1, .f32⟩
  | .local _ .vmem, ⟨15, _⟩ => ⟨S8x1x1, .f32⟩
  | .local _ .vmem, ⟨16, _⟩ => ⟨S8x32x128, .bf16⟩
  | .local _ .vmem, ⟨17, _⟩ => ⟨S32x8, .f32⟩
  | .local _ .vmem, ⟨18, _⟩ => ⟨S1x32x8x256, .f32⟩
  | .local _ .vmem, ⟨19, _⟩ => ⟨S1x32x8x256, .f32⟩
  | _, _ => ⟨S2048x8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x256x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x32x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x32x8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "inv31" => some ((31⁻¹ : ℝ) : EReal)
  | "mask" => some ⊥
  | _ => none
-- ==== ReferenceIdeal.lean ====
abbrev S2048x8x32 : Shape := ⟨3, ![2048, 8, 32]⟩
abbrev S32 : Shape := ⟨1, ![32]⟩
abbrev S4x32x8 : Shape := ⟨3, ![4, 32, 8]⟩
abbrev S4x2x32x8 : Shape := ⟨4, ![4, 2, 32, 8]⟩
abbrev S32x32 : Shape := ⟨2, ![32, 32]⟩
abbrev S32x8 : Shape := ⟨2, ![32, 8]⟩
abbrev S8 : Shape := ⟨1, ![8]⟩
abbrev S8x32x128 : Shape := ⟨3, ![8, 32, 128]⟩
abbrev S8x128 : Shape := ⟨2, ![8, 128]⟩
abbrev S8x128x128 : Shape := ⟨3, ![8, 128, 128]⟩
abbrev S8x128x32 : Shape := ⟨3, ![8, 128, 32]⟩
abbrev S8x32 : Shape := ⟨2, ![8, 32]⟩
abbrev S_ : Shape := ⟨0, ![]⟩
abbrev S2048x8 : Shape := ⟨2, ![2048, 8]⟩
abbrev S2048x8x1 : Shape := ⟨3, ![2048, 8, 1]⟩
abbrev S1x1x32 : Shape := ⟨3, ![1, 1, 32]⟩
abbrev S8x8 : Shape := ⟨2, ![8, 8]⟩
abbrev S1x32x8 : Shape := ⟨3, ![1, 32, 8]⟩
abbrev S2048x8x8 : Shape := ⟨3, ![2048, 8, 8]⟩
abbrev S1x1x32x8 : Shape := ⟨4, ![1, 1, 32, 8]⟩
abbrev S1x1x8 : Shape := ⟨3, ![1, 1, 8]⟩
abbrev S2048x8x2 : Shape := ⟨3, ![2048, 8, 2]⟩
abbrev S2048x2 : Shape := ⟨2, ![2048, 2]⟩
abbrev S2048x1x2 : Shape := ⟨3, ![2048, 1, 2]⟩
abbrev S1x32x128 : Shape := ⟨3, ![1, 32, 128]⟩
abbrev S32x128 : Shape := ⟨2, ![32, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1 : Shape := ⟨1, ![1]⟩
abbrev S1x128x32 : Shape := ⟨3, ![1, 128, 32]⟩
abbrev S128x32 : Shape := ⟨2, ![128, 32]⟩
abbrev S1x32 : Shape := ⟨2, ![1, 32]⟩
abbrev S2048x8x128 : Shape := ⟨3, ![2048, 8, 128]⟩
abbrev S1x1x128 : Shape := ⟨3, ![1, 1, 128]⟩

abbrev nBuf : Space → Nat
  | .hbm => 797
  | .vmem => 0
  | .smem => 0
  | _ => 0

abbrev hbmTy0_0 (i : Nat) : BufTy := match i % 128 with
  | 0 => ⟨S2048x8x32, .f32⟩
  | 1 => ⟨S32, .f32⟩
  | 2 => ⟨S32, .f32⟩
  | 3 => ⟨S32, .f32⟩
  | 4 => ⟨S32, .f32⟩
  | 5 => ⟨S4x32x8, .f32⟩
  | 6 => ⟨S4x2x32x8, .f32⟩
  | 7 => ⟨S4x32x8, .f32⟩
  | 8 => ⟨S32x32, .f32⟩
  | 9 => ⟨S32, .f32⟩
  | 10 => ⟨S32x8, .f32⟩
  | 11 => ⟨S8, .f32⟩
  | 12 => ⟨S8x32x128, .f32⟩
  | 13 => ⟨S8x128, .f32⟩
  | 14 => ⟨S8x128x128, .f32⟩
  | 15 => ⟨S8x128, .f32⟩
  | 16 => ⟨S8, .f32⟩
  | 17 => ⟨S8x128x128, .f32⟩
  | 18 => ⟨S8x128, .f32⟩
  | 19 => ⟨S8x128x32, .f32⟩
  | 20 => ⟨S8x32, .f32⟩
  | 21 => ⟨S_, .f32⟩
  | 22 => ⟨S2048x8, .f32⟩
  | 23 => ⟨S2048x8x1, .f32⟩
  | 24 => ⟨S_, .f32⟩
  | 25 => ⟨S2048x8x1, .f32⟩
  | 26 => ⟨S2048x8x1, .f32⟩
  | 27 => ⟨S_, .i32⟩
  | 28 => ⟨S_, .f32⟩
  | 29 => ⟨S2048x8, .f32⟩
  | 30 => ⟨S2048x8x1, .f32⟩
  | 31 => ⟨S_, .f32⟩
  | 32 => ⟨S2048x8x1, .f32⟩
  | 33 => ⟨S2048x8x1, .f32⟩
  | 34 => ⟨S2048x8x32, .f32⟩
  | 35 => ⟨S2048x8x32, .f32⟩
  | 36 => ⟨S2048x8x32, .f32⟩
  | 37 => ⟨S_, .f32⟩
  | 38 => ⟨S_, .f32⟩
  | 39 => ⟨S_, .f32⟩
  | 40 => ⟨S_, .f32⟩
  | 41 => ⟨S2048x8, .f32⟩
  | 42 => ⟨S2048x8x1, .f32⟩
  | 43 => ⟨S2048x8x1, .f32⟩
  | 44 => ⟨S2048x8x1, .f32⟩
  | 45 => ⟨S_, .f32⟩
  | 46 => ⟨S_, .i1⟩
  | 47 => ⟨S_, .f32⟩
  | 48 => ⟨S_, .f32⟩
  | 49 => ⟨S2048x8x1, .f32⟩
  | 50 => ⟨S2048x8x1, .f32⟩
  | 51 => ⟨S2048x8x32, .f32⟩
  | 52 => ⟨S2048x8x32, .f32⟩
  | 53 => ⟨S_, .f32⟩
  | 54 => ⟨S2048x8x1, .f32⟩
  | 55 => ⟨S2048x8x1, .f32⟩
  | 56 => ⟨S2048x8x1, .f32⟩
  | 57 => ⟨S2048x8x32, .f32⟩
  | 58 => ⟨S2048x8x32, .f32⟩
  | 59 => ⟨S1x1x32, .f32⟩
  | 60 => ⟨S2048x8x32, .f32⟩
  | 61 => ⟨S2048x8x32, .f32⟩
  | 62 => ⟨S1x1x32, .f32⟩
  | 63 => ⟨S2048x8x32, .f32⟩
  | 64 => ⟨S2048x8x32, .f32⟩
  | 65 => ⟨S_, .f32⟩
  | 66 => ⟨S8x8, .f32⟩
  | 67 => ⟨S8x8, .i32⟩
  | 68 => ⟨S_, .i32⟩
  | 69 => ⟨S8x8, .i32⟩
  | 70 => ⟨S8x8, .i32⟩
  | 71 => ⟨S8x8, .i32⟩
  | 72 => ⟨S8x8, .i1⟩
  | 73 => ⟨S_, .f32⟩
  | 74 => ⟨S8x8, .f32⟩
  | 75 => ⟨S8x8, .f32⟩
  | 76 => ⟨S1x32x8, .f32⟩
  | 77 => ⟨S32x8, .f32⟩
  | 78 => ⟨S2048x8x8, .f32⟩
  | 79 => ⟨S_, .f32⟩
  | 80 => ⟨S2048x8x8, .f32⟩
  | 81 => ⟨S1x1x32x8, .f32⟩
  | 82 => ⟨S32x8, .f32⟩
  | 83 => ⟨S2048x8x8, .f32⟩
  | 84 => ⟨S2048x8x8, .f32⟩
  | 85 => ⟨S2048x8x8, .f32⟩
  | 86 => ⟨S1x1x32x8, .f32⟩
  | 87 => ⟨S32x8, .f32⟩
  | 88 => ⟨S2048x8x8, .f32⟩
  | 89 => ⟨S2048x8x8, .f32⟩
  | 90 => ⟨S2048x8x8, .f32⟩
  | 91 => ⟨S_, .f32⟩
  | 92 => ⟨S2048x8x8, .f32⟩
  | 93 => ⟨S2048x8x8, .f32⟩
  | 94 => ⟨S_, .f32⟩
  | 95 => ⟨S8x8, .f32⟩
  | 96 => ⟨S8x8, .i1⟩
  | 97 => ⟨S_, .f32⟩
  | 98 => ⟨S_, .f32⟩
  | 99 => ⟨S2048x8x8, .i1⟩
  | 100 => ⟨S2048x8x8, .f32⟩
  | 101 => ⟨S2048x8x8, .f32⟩
  | 102 => ⟨S_, .f32⟩
  | 103 => ⟨S2048x8, .f32⟩
  | 104 => ⟨S_, .f32⟩
  | 105 => ⟨S2048x8, .f32⟩
  | 106 => ⟨S2048x8, .f32⟩
  | 107 => ⟨S2048x8x1, .f32⟩
  | 108 => ⟨S2048x8x8, .f32⟩
  | 109 => ⟨S2048x8x8, .f32⟩
  | 110 => ⟨S2048x8x8, .f32⟩
  | 111 => ⟨S_, .f32⟩
  | 112 => ⟨S2048x8, .f32⟩
  | 113 => ⟨S2048x8x1, .f32⟩
  | 114 => ⟨S2048x8x8, .f32⟩
  | 115 => ⟨S2048x8x8, .f32⟩
  | 116 => ⟨S1x32x8, .f32⟩
  | 117 => ⟨S32x8, .f32⟩
  | 118 => ⟨S2048x8x8, .f32⟩
  | 119 => ⟨S2048x8x8, .f32⟩
  | 120 => ⟨S1x32x8, .f32⟩
  | 121 => ⟨S32x8, .f32⟩
  | 122 => ⟨S2048x8x8, .f32⟩
  | 123 => ⟨S_, .f32⟩
  | 124 => ⟨S2048x8x8, .f32⟩
  | 125 => ⟨S1x1x32x8, .f32⟩
  | 126 => ⟨S32x8, .f32⟩
  | 127 => ⟨S2048x8x8, .f32⟩
  | _ => ⟨S2048x8x32, .f32⟩

abbrev hbmTy0_1 (i : Nat) : BufTy := match i % 128 with
  | 0 => ⟨S2048x8x8, .f32⟩
  | 1 => ⟨S2048x8x8, .f32⟩
  | 2 => ⟨S1x1x32x8, .f32⟩
  | 3 => ⟨S32x8, .f32⟩
  | 4 => ⟨S2048x8x8, .f32⟩
  | 5 => ⟨S2048x8x8, .f32⟩
  | 6 => ⟨S2048x8x8, .f32⟩
  | 7 => ⟨S_, .f32⟩
  | 8 => ⟨S2048x8x8, .f32⟩
  | 9 => ⟨S2048x8x8, .f32⟩
  | 10 => ⟨S_, .f32⟩
  | 11 => ⟨S8x8, .f32⟩
  | 12 => ⟨S8x8, .i1⟩
  | 13 => ⟨S_, .f32⟩
  | 14 => ⟨S_, .f32⟩
  | 15 => ⟨S2048x8x8, .i1⟩
  | 16 => ⟨S2048x8x8, .f32⟩
  | 17 => ⟨S2048x8x8, .f32⟩
  | 18 => ⟨S_, .f32⟩
  | 19 => ⟨S2048x8, .f32⟩
  | 20 => ⟨S_, .f32⟩
  | 21 => ⟨S2048x8, .f32⟩
  | 22 => ⟨S2048x8, .f32⟩
  | 23 => ⟨S2048x8x1, .f32⟩
  | 24 => ⟨S2048x8x8, .f32⟩
  | 25 => ⟨S2048x8x8, .f32⟩
  | 26 => ⟨S2048x8x8, .f32⟩
  | 27 => ⟨S_, .f32⟩
  | 28 => ⟨S2048x8, .f32⟩
  | 29 => ⟨S2048x8x1, .f32⟩
  | 30 => ⟨S2048x8x8, .f32⟩
  | 31 => ⟨S2048x8x8, .f32⟩
  | 32 => ⟨S1x32x8, .f32⟩
  | 33 => ⟨S32x8, .f32⟩
  | 34 => ⟨S2048x8x8, .f32⟩
  | 35 => ⟨S2048x8x8, .f32⟩
  | 36 => ⟨S1x32x8, .f32⟩
  | 37 => ⟨S32x8, .f32⟩
  | 38 => ⟨S2048x8x8, .f32⟩
  | 39 => ⟨S_, .f32⟩
  | 40 => ⟨S2048x8x8, .f32⟩
  | 41 => ⟨S1x1x32x8, .f32⟩
  | 42 => ⟨S32x8, .f32⟩
  | 43 => ⟨S2048x8x8, .f32⟩
  | 44 => ⟨S2048x8x8, .f32⟩
  | 45 => ⟨S2048x8x8, .f32⟩
  | 46 => ⟨S1x1x32x8, .f32⟩
  | 47 => ⟨S32x8, .f32⟩
  | 48 => ⟨S2048x8x8, .f32⟩
  | 49 => ⟨S2048x8x8, .f32⟩
  | 50 => ⟨S2048x8x8, .f32⟩
  | 51 => ⟨S_, .f32⟩
  | 52 => ⟨S2048x8x8, .f32⟩
  | 53 => ⟨S2048x8x8, .f32⟩
  | 54 => ⟨S_, .f32⟩
  | 55 => ⟨S8x8, .f32⟩
  | 56 => ⟨S8x8, .i1⟩
  | 57 => ⟨S_, .f32⟩
  | 58 => ⟨S_, .f32⟩
  | 59 => ⟨S2048x8x8, .i1⟩
  | 60 => ⟨S2048x8x8, .f32⟩
  | 61 => ⟨S2048x8x8, .f32⟩
  | 62 => ⟨S_, .f32⟩
  | 63 => ⟨S2048x8, .f32⟩
  | 64 => ⟨S_, .f32⟩
  | 65 => ⟨S2048x8, .f32⟩
  | 66 => ⟨S2048x8, .f32⟩
  | 67 => ⟨S2048x8x1, .f32⟩
  | 68 => ⟨S2048x8x8, .f32⟩
  | 69 => ⟨S2048x8x8, .f32⟩
  | 70 => ⟨S2048x8x8, .f32⟩
  | 71 => ⟨S_, .f32⟩
  | 72 => ⟨S2048x8, .f32⟩
  | 73 => ⟨S2048x8x1, .f32⟩
  | 74 => ⟨S2048x8x8, .f32⟩
  | 75 => ⟨S2048x8x8, .f32⟩
  | 76 => ⟨S1x32x8, .f32⟩
  | 77 => ⟨S32x8, .f32⟩
  | 78 => ⟨S2048x8x8, .f32⟩
  | 79 => ⟨S2048x8x8, .f32⟩
  | 80 => ⟨S1x32x8, .f32⟩
  | 81 => ⟨S32x8, .f32⟩
  | 82 => ⟨S2048x8x8, .f32⟩
  | 83 => ⟨S_, .f32⟩
  | 84 => ⟨S2048x8x8, .f32⟩
  | 85 => ⟨S1x1x32x8, .f32⟩
  | 86 => ⟨S32x8, .f32⟩
  | 87 => ⟨S2048x8x8, .f32⟩
  | 88 => ⟨S2048x8x8, .f32⟩
  | 89 => ⟨S2048x8x8, .f32⟩
  | 90 => ⟨S1x1x32x8, .f32⟩
  | 91 => ⟨S32x8, .f32⟩
  | 92 => ⟨S2048x8x8, .f32⟩
  | 93 => ⟨S2048x8x8, .f32⟩
  | 94 => ⟨S2048x8x8, .f32⟩
  | 95 => ⟨S_, .f32⟩
  | 96 => ⟨S2048x8x8, .f32⟩
  | 97 => ⟨S2048x8x8, .f32⟩
  | 98 => ⟨S_, .f32⟩
  | 99 => ⟨S8x8, .f32⟩
  | 100 => ⟨S8x8, .i1⟩
  | 101 => ⟨S_, .f32⟩
  | 102 => ⟨S_, .f32⟩
  | 103 => ⟨S2048x8x8, .i1⟩
  | 104 => ⟨S2048x8x8, .f32⟩
  | 105 => ⟨S2048x8x8, .f32⟩
  | 106 => ⟨S_, .f32⟩
  | 107 => ⟨S2048x8, .f32⟩
  | 108 => ⟨S_, .f32⟩
  | 109 => ⟨S2048x8, .f32⟩
  | 110 => ⟨S2048x8, .f32⟩
  | 111 => ⟨S2048x8x1, .f32⟩
  | 112 => ⟨S2048x8x8, .f32⟩
  | 113 => ⟨S2048x8x8, .f32⟩
  | 114 => ⟨S2048x8x8, .f32⟩
  | 115 => ⟨S_, .f32⟩
  | 116 => ⟨S2048x8, .f32⟩
  | 117 => ⟨S2048x8x1, .f32⟩
  | 118 => ⟨S2048x8x8, .f32⟩
  | 119 => ⟨S2048x8x8, .f32⟩
  | 120 => ⟨S1x32x8, .f32⟩
  | 121 => ⟨S32x8, .f32⟩
  | 122 => ⟨S2048x8x8, .f32⟩
  | 123 => ⟨S2048x8x8, .f32⟩
  | 124 => ⟨S2048x8x32, .f32⟩
  | 125 => ⟨S2048x8x32, .f32⟩
  | 126 => ⟨S1x1x32, .f32⟩
  | 127 => ⟨S2048x8x32, .f32⟩
  | _ => ⟨S2048x8x32, .f32⟩

abbrev hbmTy0_2 (i : Nat) : BufTy := match i % 128 with
  | 0 => ⟨S2048x8x32, .f32⟩
  | 1 => ⟨S2048x8x32, .f32⟩
  | 2 => ⟨S_, .f32⟩
  | 3 => ⟨S2048x8, .f32⟩
  | 4 => ⟨S2048x8x1, .f32⟩
  | 5 => ⟨S_, .f32⟩
  | 6 => ⟨S2048x8x1, .f32⟩
  | 7 => ⟨S2048x8x1, .f32⟩
  | 8 => ⟨S_, .i32⟩
  | 9 => ⟨S_, .f32⟩
  | 10 => ⟨S2048x8, .f32⟩
  | 11 => ⟨S2048x8x1, .f32⟩
  | 12 => ⟨S_, .f32⟩
  | 13 => ⟨S2048x8x1, .f32⟩
  | 14 => ⟨S2048x8x1, .f32⟩
  | 15 => ⟨S2048x8x32, .f32⟩
  | 16 => ⟨S2048x8x32, .f32⟩
  | 17 => ⟨S2048x8x32, .f32⟩
  | 18 => ⟨S_, .f32⟩
  | 19 => ⟨S_, .f32⟩
  | 20 => ⟨S_, .f32⟩
  | 21 => ⟨S_, .f32⟩
  | 22 => ⟨S2048x8, .f32⟩
  | 23 => ⟨S2048x8x1, .f32⟩
  | 24 => ⟨S2048x8x1, .f32⟩
  | 25 => ⟨S2048x8x1, .f32⟩
  | 26 => ⟨S_, .f32⟩
  | 27 => ⟨S_, .i1⟩
  | 28 => ⟨S_, .f32⟩
  | 29 => ⟨S_, .f32⟩
  | 30 => ⟨S2048x8x1, .f32⟩
  | 31 => ⟨S2048x8x1, .f32⟩
  | 32 => ⟨S2048x8x32, .f32⟩
  | 33 => ⟨S2048x8x32, .f32⟩
  | 34 => ⟨S_, .f32⟩
  | 35 => ⟨S2048x8x1, .f32⟩
  | 36 => ⟨S2048x8x1, .f32⟩
  | 37 => ⟨S2048x8x1, .f32⟩
  | 38 => ⟨S2048x8x32, .f32⟩
  | 39 => ⟨S2048x8x32, .f32⟩
  | 40 => ⟨S1x1x32, .f32⟩
  | 41 => ⟨S2048x8x32, .f32⟩
  | 42 => ⟨S2048x8x32, .f32⟩
  | 43 => ⟨S1x1x32, .f32⟩
  | 44 => ⟨S2048x8x32, .f32⟩
  | 45 => ⟨S2048x8x32, .f32⟩
  | 46 => ⟨S2048x8x8, .f32⟩
  | 47 => ⟨S1x1x8, .f32⟩
  | 48 => ⟨S2048x8x8, .f32⟩
  | 49 => ⟨S2048x8x8, .f32⟩
  | 50 => ⟨S2048x8x2, .f32⟩
  | 51 => ⟨S2048x8x2, .i32⟩
  | 52 => ⟨S_, .f32⟩
  | 53 => ⟨S2048x2, .f32⟩
  | 54 => ⟨S_, .f32⟩
  | 55 => ⟨S2048x2, .f32⟩
  | 56 => ⟨S2048x2, .f32⟩
  | 57 => ⟨S2048x1x2, .f32⟩
  | 58 => ⟨S2048x8x2, .f32⟩
  | 59 => ⟨S2048x8x2, .f32⟩
  | 60 => ⟨S2048x8x2, .f32⟩
  | 61 => ⟨S_, .f32⟩
  | 62 => ⟨S2048x2, .f32⟩
  | 63 => ⟨S2048x1x2, .f32⟩
  | 64 => ⟨S2048x8x2, .f32⟩
  | 65 => ⟨S2048x8x2, .f32⟩
  | 66 => ⟨S_, .f32⟩
  | 67 => ⟨S2048x8x32, .f32⟩
  | 68 => ⟨S_, .i32⟩
  | 69 => ⟨S2048x8x2, .i32⟩
  | 70 => ⟨S2048x8x2, .i1⟩
  | 71 => ⟨S_, .f32⟩
  | 72 => ⟨S_, .f32⟩
  | 73 => ⟨S2048x8x2, .f32⟩
  | 74 => ⟨S2048x8x2, .f32⟩
  | 75 => ⟨S_, .f32⟩
  | 76 => ⟨S2048x8, .f32⟩
  | 77 => ⟨S1x32x128, .f32⟩
  | 78 => ⟨S32x128, .f32⟩
  | 79 => ⟨S1x128, .f32⟩
  | 80 => ⟨S128, .f32⟩
  | 81 => ⟨S1x128x128, .f32⟩
  | 82 => ⟨S128x128, .f32⟩
  | 83 => ⟨S1x128, .f32⟩
  | 84 => ⟨S128, .f32⟩
  | 85 => ⟨S1, .f32⟩
  | 86 => ⟨S_, .f32⟩
  | 87 => ⟨S1x128x128, .f32⟩
  | 88 => ⟨S128x128, .f32⟩
  | 89 => ⟨S1x128, .f32⟩
  | 90 => ⟨S128, .f32⟩
  | 91 => ⟨S1x128x32, .f32⟩
  | 92 => ⟨S128x32, .f32⟩
  | 93 => ⟨S1x32, .f32⟩
  | 94 => ⟨S32, .f32⟩
  | 95 => ⟨S2048x8x128, .f32⟩
  | 96 => ⟨S1x1x128, .f32⟩
  | 97 => ⟨S2048x8x128, .f32⟩
  | 98 => ⟨S2048x8x128, .f32⟩
  | 99 => ⟨S2048x8x128, .f32⟩
  | 100 => ⟨S1x1x128, .f32⟩
  | 101 => ⟨S2048x8x128, .f32⟩
  | 102 => ⟨S2048x8x128, .f32⟩
  | 103 => ⟨S2048x8x128, .f32⟩
  | 104 => ⟨S2048x8x128, .f32⟩
  | 105 => ⟨S2048x8x128, .f32⟩
  | 106 => ⟨S2048x8x128, .f32⟩
  | 107 => ⟨S_, .f32⟩
  | 108 => ⟨S2048x8x128, .f32⟩
  | 109 => ⟨S2048x8x128, .f32⟩
  | 110 => ⟨S_, .f32⟩
  | 111 => ⟨S2048x8x128, .f32⟩
  | 112 => ⟨S2048x8x128, .f32⟩
  | 113 => ⟨S2048x8x128, .f32⟩
  | 114 => ⟨S2048x8x128, .f32⟩
  | 115 => ⟨S1x1x128, .f32⟩
  | 116 => ⟨S2048x8x128, .f32⟩
  | 117 => ⟨S2048x8x128, .f32⟩
  | 118 => ⟨S2048x8x128, .f32⟩
  | 119 => ⟨S2048x8x32, .f32⟩
  | 120 => ⟨S1x1x32, .f32⟩
  | 121 => ⟨S2048x8x32, .f32⟩
  | 122 => ⟨S2048x8x32, .f32⟩
  | 123 => ⟨S2048x8x1, .f32⟩
  | 124 => ⟨S2048x8x32, .f32⟩
  | 125 => ⟨S2048x8x32, .f32⟩
  | 126 => ⟨S2048x8x32, .f32⟩
  | 127 => ⟨S_, .i32⟩
  | _ => ⟨S2048x8x32, .f32⟩

abbrev hbmTy0_3 (i : Nat) : BufTy := match i % 128 with
  | 0 => ⟨S2048x8x2, .i32⟩
  | 1 => ⟨S2048x8x2, .i1⟩
  | 2 => ⟨S_, .f32⟩
  | 3 => ⟨S_, .f32⟩
  | 4 => ⟨S2048x8x2, .f32⟩
  | 5 => ⟨S2048x8x2, .f32⟩
  | 6 => ⟨S_, .f32⟩
  | 7 => ⟨S2048x8, .f32⟩
  | 8 => ⟨S1x32x128, .f32⟩
  | 9 => ⟨S32x128, .f32⟩
  | 10 => ⟨S1x128, .f32⟩
  | 11 => ⟨S128, .f32⟩
  | 12 => ⟨S1x128x128, .f32⟩
  | 13 => ⟨S128x128, .f32⟩
  | 14 => ⟨S1x128, .f32⟩
  | 15 => ⟨S128, .f32⟩
  | 16 => ⟨S1, .f32⟩
  | 17 => ⟨S_, .f32⟩
  | 18 => ⟨S1x128x128, .f32⟩
  | 19 => ⟨S128x128, .f32⟩
  | 20 => ⟨S1x128, .f32⟩
  | 21 => ⟨S128, .f32⟩
  | 22 => ⟨S1x128x32, .f32⟩
  | 23 => ⟨S128x32, .f32⟩
  | 24 => ⟨S1x32, .f32⟩
  | 25 => ⟨S32, .f32⟩
  | 26 => ⟨S2048x8x128, .f32⟩
  | 27 => ⟨S1x1x128, .f32⟩
  | 28 => ⟨S2048x8x128, .f32⟩
  | 29 => ⟨S2048x8x128, .f32⟩
  | 30 => ⟨S2048x8x128, .f32⟩
  | 31 => ⟨S1x1x128, .f32⟩
  | 32 => ⟨S2048x8x128, .f32⟩
  | 33 => ⟨S2048x8x128, .f32⟩
  | 34 => ⟨S2048x8x128, .f32⟩
  | 35 => ⟨S2048x8x128, .f32⟩
  | 36 => ⟨S2048x8x128, .f32⟩
  | 37 => ⟨S2048x8x128, .f32⟩
  | 38 => ⟨S_, .f32⟩
  | 39 => ⟨S2048x8x128, .f32⟩
  | 40 => ⟨S2048x8x128, .f32⟩
  | 41 => ⟨S_, .f32⟩
  | 42 => ⟨S2048x8x128, .f32⟩
  | 43 => ⟨S2048x8x128, .f32⟩
  | 44 => ⟨S2048x8x128, .f32⟩
  | 45 => ⟨S2048x8x128, .f32⟩
  | 46 => ⟨S1x1x128, .f32⟩
  | 47 => ⟨S2048x8x128, .f32⟩
  | 48 => ⟨S2048x8x128, .f32⟩
  | 49 => ⟨S2048x8x128, .f32⟩
  | 50 => ⟨S2048x8x32, .f32⟩
  | 51 => ⟨S1x1x32, .f32⟩
  | 52 => ⟨S2048x8x32, .f32⟩
  | 53 => ⟨S2048x8x32, .f32⟩
  | 54 => ⟨S2048x8x1, .f32⟩
  | 55 => ⟨S2048x8x32, .f32⟩
  | 56 => ⟨S2048x8x32, .f32⟩
  | 57 => ⟨S2048x8x32, .f32⟩
  | 58 => ⟨S_, .i32⟩
  | 59 => ⟨S2048x8x2, .i32⟩
  | 60 => ⟨S2048x8x2, .i1⟩
  | 61 => ⟨S_, .f32⟩
  | 62 => ⟨S_, .f32⟩
  | 63 => ⟨S2048x8x2, .f32⟩
  | 64 => ⟨S2048x8x2, .f32⟩
  | 65 => ⟨S_, .f32⟩
  | 66 => ⟨S2048x8, .f32⟩
  | 67 => ⟨S1x32x128, .f32⟩
  | 68 => ⟨S32x128, .f32⟩
  | 69 => ⟨S1x128, .f32⟩
  | 70 => ⟨S128, .f32⟩
  | 71 => ⟨S1x128x128, .f32⟩
  | 72 => ⟨S128x128, .f32⟩
  | 73 => ⟨S1x128, .f32⟩
  | 74 => ⟨S128, .f32⟩
  | 75 => ⟨S1, .f32⟩
  | 76 => ⟨S_, .f32⟩
  | 77 => ⟨S1x128x128, .f32⟩
  | 78 => ⟨S128x128, .f32⟩
  | 79 => ⟨S1x128, .f32⟩
  | 80 => ⟨S128, .f32⟩
  | 81 => ⟨S1x128x32, .f32⟩
  | 82 => ⟨S128x32, .f32⟩
  | 83 => ⟨S1x32, .f32⟩
  | 84 => ⟨S32, .f32⟩
  | 85 => ⟨S2048x8x128, .f32⟩
  | 86 => ⟨S1x1x128, .f32⟩
  | 87 => ⟨S2048x8x128, .f32⟩
  | 88 => ⟨S2048x8x128, .f32⟩
  | 89 => ⟨S2048x8x128, .f32⟩
  | 90 => ⟨S1x1x128, .f32⟩
  | 91 => ⟨S2048x8x128, .f32⟩
  | 92 => ⟨S2048x8x128, .f32⟩
  | 93 => ⟨S2048x8x128, .f32⟩
  | 94 => ⟨S2048x8x128, .f32⟩
  | 95 => ⟨S2048x8x128, .f32⟩
  | 96 => ⟨S2048x8x128, .f32⟩
  | 97 => ⟨S_, .f32⟩
  | 98 => ⟨S2048x8x128, .f32⟩
  | 99 => ⟨S2048x8x128, .f32⟩
  | 100 => ⟨S_, .f32⟩
  | 101 => ⟨S2048x8x128, .f32⟩
  | 102 => ⟨S2048x8x128, .f32⟩
  | 103 => ⟨S2048x8x128, .f32⟩
  | 104 => ⟨S2048x8x128, .f32⟩
  | 105 => ⟨S1x1x128, .f32⟩
  | 106 => ⟨S2048x8x128, .f32⟩
  | 107 => ⟨S2048x8x128, .f32⟩
  | 108 => ⟨S2048x8x128, .f32⟩
  | 109 => ⟨S2048x8x32, .f32⟩
  | 110 => ⟨S1x1x32, .f32⟩
  | 111 => ⟨S2048x8x32, .f32⟩
  | 112 => ⟨S2048x8x32, .f32⟩
  | 113 => ⟨S2048x8x1, .f32⟩
  | 114 => ⟨S2048x8x32, .f32⟩
  | 115 => ⟨S2048x8x32, .f32⟩
  | 116 => ⟨S2048x8x32, .f32⟩
  | 117 => ⟨S_, .i32⟩
  | 118 => ⟨S2048x8x2, .i32⟩
  | 119 => ⟨S2048x8x2, .i1⟩
  | 120 => ⟨S_, .f32⟩
  | 121 => ⟨S_, .f32⟩
  | 122 => ⟨S2048x8x2, .f32⟩
  | 123 => ⟨S2048x8x2, .f32⟩
  | 124 => ⟨S_, .f32⟩
  | 125 => ⟨S2048x8, .f32⟩
  | 126 => ⟨S1x32x128, .f32⟩
  | 127 => ⟨S32x128, .f32⟩
  | _ => ⟨S2048x8x32, .f32⟩

abbrev hbmTy0_4 (i : Nat) : BufTy := match i % 128 with
  | 0 => ⟨S1x128, .f32⟩
  | 1 => ⟨S128, .f32⟩
  | 2 => ⟨S1x128x128, .f32⟩
  | 3 => ⟨S128x128, .f32⟩
  | 4 => ⟨S1x128, .f32⟩
  | 5 => ⟨S128, .f32⟩
  | 6 => ⟨S1, .f32⟩
  | 7 => ⟨S_, .f32⟩
  | 8 => ⟨S1x128x128, .f32⟩
  | 9 => ⟨S128x128, .f32⟩
  | 10 => ⟨S1x128, .f32⟩
  | 11 => ⟨S128, .f32⟩
  | 12 => ⟨S1x128x32, .f32⟩
  | 13 => ⟨S128x32, .f32⟩
  | 14 => ⟨S1x32, .f32⟩
  | 15 => ⟨S32, .f32⟩
  | 16 => ⟨S2048x8x128, .f32⟩
  | 17 => ⟨S1x1x128, .f32⟩
  | 18 => ⟨S2048x8x128, .f32⟩
  | 19 => ⟨S2048x8x128, .f32⟩
  | 20 => ⟨S2048x8x128, .f32⟩
  | 21 => ⟨S1x1x128, .f32⟩
  | 22 => ⟨S2048x8x128, .f32⟩
  | 23 => ⟨S2048x8x128, .f32⟩
  | 24 => ⟨S2048x8x128, .f32⟩
  | 25 => ⟨S2048x8x128, .f32⟩
  | 26 => ⟨S2048x8x128, .f32⟩
  | 27 => ⟨S2048x8x128, .f32⟩
  | 28 => ⟨S_, .f32⟩
  | 29 => ⟨S2048x8x128, .f32⟩
  | 30 => ⟨S2048x8x128, .f32⟩
  | 31 => ⟨S_, .f32⟩
  | 32 => ⟨S2048x8x128, .f32⟩
  | 33 => ⟨S2048x8x128, .f32⟩
  | 34 => ⟨S2048x8x128, .f32⟩
  | 35 => ⟨S2048x8x128, .f32⟩
  | 36 => ⟨S1x1x128, .f32⟩
  | 37 => ⟨S2048x8x128, .f32⟩
  | 38 => ⟨S2048x8x128, .f32⟩
  | 39 => ⟨S2048x8x128, .f32⟩
  | 40 => ⟨S2048x8x32, .f32⟩
  | 41 => ⟨S1x1x32, .f32⟩
  | 42 => ⟨S2048x8x32, .f32⟩
  | 43 => ⟨S2048x8x32, .f32⟩
  | 44 => ⟨S2048x8x1, .f32⟩
  | 45 => ⟨S2048x8x32, .f32⟩
  | 46 => ⟨S2048x8x32, .f32⟩
  | 47 => ⟨S2048x8x32, .f32⟩
  | 48 => ⟨S_, .i32⟩
  | 49 => ⟨S2048x8x2, .i32⟩
  | 50 => ⟨S2048x8x2, .i1⟩
  | 51 => ⟨S_, .f32⟩
  | 52 => ⟨S_, .f32⟩
  | 53 => ⟨S2048x8x2, .f32⟩
  | 54 => ⟨S2048x8x2, .f32⟩
  | 55 => ⟨S_, .f32⟩
  | 56 => ⟨S2048x8, .f32⟩
  | 57 => ⟨S1x32x128, .f32⟩
  | 58 => ⟨S32x128, .f32⟩
  | 59 => ⟨S1x128, .f32⟩
  | 60 => ⟨S128, .f32⟩
  | 61 => ⟨S1x128x128, .f32⟩
  | 62 => ⟨S128x128, .f32⟩
  | 63 => ⟨S1x128, .f32⟩
  | 64 => ⟨S128, .f32⟩
  | 65 => ⟨S1, .f32⟩
  | 66 => ⟨S_, .f32⟩
  | 67 => ⟨S1x128x128, .f32⟩
  | 68 => ⟨S128x128, .f32⟩
  | 69 => ⟨S1x128, .f32⟩
  | 70 => ⟨S128, .f32⟩
  | 71 => ⟨S1x128x32, .f32⟩
  | 72 => ⟨S128x32, .f32⟩
  | 73 => ⟨S1x32, .f32⟩
  | 74 => ⟨S32, .f32⟩
  | 75 => ⟨S2048x8x128, .f32⟩
  | 76 => ⟨S1x1x128, .f32⟩
  | 77 => ⟨S2048x8x128, .f32⟩
  | 78 => ⟨S2048x8x128, .f32⟩
  | 79 => ⟨S2048x8x128, .f32⟩
  | 80 => ⟨S1x1x128, .f32⟩
  | 81 => ⟨S2048x8x128, .f32⟩
  | 82 => ⟨S2048x8x128, .f32⟩
  | 83 => ⟨S2048x8x128, .f32⟩
  | 84 => ⟨S2048x8x128, .f32⟩
  | 85 => ⟨S2048x8x128, .f32⟩
  | 86 => ⟨S2048x8x128, .f32⟩
  | 87 => ⟨S_, .f32⟩
  | 88 => ⟨S2048x8x128, .f32⟩
  | 89 => ⟨S2048x8x128, .f32⟩
  | 90 => ⟨S_, .f32⟩
  | 91 => ⟨S2048x8x128, .f32⟩
  | 92 => ⟨S2048x8x128, .f32⟩
  | 93 => ⟨S2048x8x128, .f32⟩
  | 94 => ⟨S2048x8x128, .f32⟩
  | 95 => ⟨S1x1x128, .f32⟩
  | 96 => ⟨S2048x8x128, .f32⟩
  | 97 => ⟨S2048x8x128, .f32⟩
  | 98 => ⟨S2048x8x128, .f32⟩
  | 99 => ⟨S2048x8x32, .f32⟩
  | 100 => ⟨S1x1x32, .f32⟩
  | 101 => ⟨S2048x8x32, .f32⟩
  | 102 => ⟨S2048x8x32, .f32⟩
  | 103 => ⟨S2048x8x1, .f32⟩
  | 104 => ⟨S2048x8x32, .f32⟩
  | 105 => ⟨S2048x8x32, .f32⟩
  | 106 => ⟨S2048x8x32, .f32⟩
  | 107 => ⟨S_, .i32⟩
  | 108 => ⟨S2048x8x2, .i32⟩
  | 109 => ⟨S2048x8x2, .i1⟩
  | 110 => ⟨S_, .f32⟩
  | 111 => ⟨S_, .f32⟩
  | 112 => ⟨S2048x8x2, .f32⟩
  | 113 => ⟨S2048x8x2, .f32⟩
  | 114 => ⟨S_, .f32⟩
  | 115 => ⟨S2048x8, .f32⟩
  | 116 => ⟨S1x32x128, .f32⟩
  | 117 => ⟨S32x128, .f32⟩
  | 118 => ⟨S1x128, .f32⟩
  | 119 => ⟨S128, .f32⟩
  | 120 => ⟨S1x128x128, .f32⟩
  | 121 => ⟨S128x128, .f32⟩
  | 122 => ⟨S1x128, .f32⟩
  | 123 => ⟨S128, .f32⟩
  | 124 => ⟨S1, .f32⟩
  | 125 => ⟨S_, .f32⟩
  | 126 => ⟨S1x128x128, .f32⟩
  | 127 => ⟨S128x128, .f32⟩
  | _ => ⟨S2048x8x32, .f32⟩

abbrev hbmTy0_5 (i : Nat) : BufTy := match i % 128 with
  | 0 => ⟨S1x128, .f32⟩
  | 1 => ⟨S128, .f32⟩
  | 2 => ⟨S1x128x32, .f32⟩
  | 3 => ⟨S128x32, .f32⟩
  | 4 => ⟨S1x32, .f32⟩
  | 5 => ⟨S32, .f32⟩
  | 6 => ⟨S2048x8x128, .f32⟩
  | 7 => ⟨S1x1x128, .f32⟩
  | 8 => ⟨S2048x8x128, .f32⟩
  | 9 => ⟨S2048x8x128, .f32⟩
  | 10 => ⟨S2048x8x128, .f32⟩
  | 11 => ⟨S1x1x128, .f32⟩
  | 12 => ⟨S2048x8x128, .f32⟩
  | 13 => ⟨S2048x8x128, .f32⟩
  | 14 => ⟨S2048x8x128, .f32⟩
  | 15 => ⟨S2048x8x128, .f32⟩
  | 16 => ⟨S2048x8x128, .f32⟩
  | 17 => ⟨S2048x8x128, .f32⟩
  | 18 => ⟨S_, .f32⟩
  | 19 => ⟨S2048x8x128, .f32⟩
  | 20 => ⟨S2048x8x128, .f32⟩
  | 21 => ⟨S_, .f32⟩
  | 22 => ⟨S2048x8x128, .f32⟩
  | 23 => ⟨S2048x8x128, .f32⟩
  | 24 => ⟨S2048x8x128, .f32⟩
  | 25 => ⟨S2048x8x128, .f32⟩
  | 26 => ⟨S1x1x128, .f32⟩
  | 27 => ⟨S2048x8x128, .f32⟩
  | 28 => ⟨S2048x8x128, .f32⟩
  | 29 => ⟨S2048x8x128, .f32⟩
  | 30 => ⟨S2048x8x32, .f32⟩
  | 31 => ⟨S1x1x32, .f32⟩
  | 32 => ⟨S2048x8x32, .f32⟩
  | 33 => ⟨S2048x8x32, .f32⟩
  | 34 => ⟨S2048x8x1, .f32⟩
  | 35 => ⟨S2048x8x32, .f32⟩
  | 36 => ⟨S2048x8x32, .f32⟩
  | 37 => ⟨S2048x8x32, .f32⟩
  | 38 => ⟨S_, .i32⟩
  | 39 => ⟨S2048x8x2, .i32⟩
  | 40 => ⟨S2048x8x2, .i1⟩
  | 41 => ⟨S_, .f32⟩
  | 42 => ⟨S_, .f32⟩
  | 43 => ⟨S2048x8x2, .f32⟩
  | 44 => ⟨S2048x8x2, .f32⟩
  | 45 => ⟨S_, .f32⟩
  | 46 => ⟨S2048x8, .f32⟩
  | 47 => ⟨S1x32x128, .f32⟩
  | 48 => ⟨S32x128, .f32⟩
  | 49 => ⟨S1x128, .f32⟩
  | 50 => ⟨S128, .f32⟩
  | 51 => ⟨S1x128x128, .f32⟩
  | 52 => ⟨S128x128, .f32⟩
  | 53 => ⟨S1x128, .f32⟩
  | 54 => ⟨S128, .f32⟩
  | 55 => ⟨S1, .f32⟩
  | 56 => ⟨S_, .f32⟩
  | 57 => ⟨S1x128x128, .f32⟩
  | 58 => ⟨S128x128, .f32⟩
  | 59 => ⟨S1x128, .f32⟩
  | 60 => ⟨S128, .f32⟩
  | 61 => ⟨S1x128x32, .f32⟩
  | 62 => ⟨S128x32, .f32⟩
  | 63 => ⟨S1x32, .f32⟩
  | 64 => ⟨S32, .f32⟩
  | 65 => ⟨S2048x8x128, .f32⟩
  | 66 => ⟨S1x1x128, .f32⟩
  | 67 => ⟨S2048x8x128, .f32⟩
  | 68 => ⟨S2048x8x128, .f32⟩
  | 69 => ⟨S2048x8x128, .f32⟩
  | 70 => ⟨S1x1x128, .f32⟩
  | 71 => ⟨S2048x8x128, .f32⟩
  | 72 => ⟨S2048x8x128, .f32⟩
  | 73 => ⟨S2048x8x128, .f32⟩
  | 74 => ⟨S2048x8x128, .f32⟩
  | 75 => ⟨S2048x8x128, .f32⟩
  | 76 => ⟨S2048x8x128, .f32⟩
  | 77 => ⟨S_, .f32⟩
  | 78 => ⟨S2048x8x128, .f32⟩
  | 79 => ⟨S2048x8x128, .f32⟩
  | 80 => ⟨S_, .f32⟩
  | 81 => ⟨S2048x8x128, .f32⟩
  | 82 => ⟨S2048x8x128, .f32⟩
  | 83 => ⟨S2048x8x128, .f32⟩
  | 84 => ⟨S2048x8x128, .f32⟩
  | 85 => ⟨S1x1x128, .f32⟩
  | 86 => ⟨S2048x8x128, .f32⟩
  | 87 => ⟨S2048x8x128, .f32⟩
  | 88 => ⟨S2048x8x128, .f32⟩
  | 89 => ⟨S2048x8x32, .f32⟩
  | 90 => ⟨S1x1x32, .f32⟩
  | 91 => ⟨S2048x8x32, .f32⟩
  | 92 => ⟨S2048x8x32, .f32⟩
  | 93 => ⟨S2048x8x1, .f32⟩
  | 94 => ⟨S2048x8x32, .f32⟩
  | 95 => ⟨S2048x8x32, .f32⟩
  | 96 => ⟨S2048x8x32, .f32⟩
  | 97 => ⟨S_, .i32⟩
  | 98 => ⟨S2048x8x2, .i32⟩
  | 99 => ⟨S2048x8x2, .i1⟩
  | 100 => ⟨S_, .f32⟩
  | 101 => ⟨S_, .f32⟩
  | 102 => ⟨S2048x8x2, .f32⟩
  | 103 => ⟨S2048x8x2, .f32⟩
  | 104 => ⟨S_, .f32⟩
  | 105 => ⟨S2048x8, .f32⟩
  | 106 => ⟨S1x32x128, .f32⟩
  | 107 => ⟨S32x128, .f32⟩
  | 108 => ⟨S1x128, .f32⟩
  | 109 => ⟨S128, .f32⟩
  | 110 => ⟨S1x128x128, .f32⟩
  | 111 => ⟨S128x128, .f32⟩
  | 112 => ⟨S1x128, .f32⟩
  | 113 => ⟨S128, .f32⟩
  | 114 => ⟨S1, .f32⟩
  | 115 => ⟨S_, .f32⟩
  | 116 => ⟨S1x128x128, .f32⟩
  | 117 => ⟨S128x128, .f32⟩
  | 118 => ⟨S1x128, .f32⟩
  | 119 => ⟨S128, .f32⟩
  | 120 => ⟨S1x128x32, .f32⟩
  | 121 => ⟨S128x32, .f32⟩
  | 122 => ⟨S1x32, .f32⟩
  | 123 => ⟨S32, .f32⟩
  | 124 => ⟨S2048x8x128, .f32⟩
  | 125 => ⟨S1x1x128, .f32⟩
  | 126 => ⟨S2048x8x128, .f32⟩
  | 127 => ⟨S2048x8x128, .f32⟩
  | _ => ⟨S2048x8x32, .f32⟩

abbrev hbmTy0_6 (i : Nat) : BufTy := match i % 128 with
  | 0 => ⟨S2048x8x128, .f32⟩
  | 1 => ⟨S1x1x128, .f32⟩
  | 2 => ⟨S2048x8x128, .f32⟩
  | 3 => ⟨S2048x8x128, .f32⟩
  | 4 => ⟨S2048x8x128, .f32⟩
  | 5 => ⟨S2048x8x128, .f32⟩
  | 6 => ⟨S2048x8x128, .f32⟩
  | 7 => ⟨S2048x8x128, .f32⟩
  | 8 => ⟨S_, .f32⟩
  | 9 => ⟨S2048x8x128, .f32⟩
  | 10 => ⟨S2048x8x128, .f32⟩
  | 11 => ⟨S_, .f32⟩
  | 12 => ⟨S2048x8x128, .f32⟩
  | 13 => ⟨S2048x8x128, .f32⟩
  | 14 => ⟨S2048x8x128, .f32⟩
  | 15 => ⟨S2048x8x128, .f32⟩
  | 16 => ⟨S1x1x128, .f32⟩
  | 17 => ⟨S2048x8x128, .f32⟩
  | 18 => ⟨S2048x8x128, .f32⟩
  | 19 => ⟨S2048x8x128, .f32⟩
  | 20 => ⟨S2048x8x32, .f32⟩
  | 21 => ⟨S1x1x32, .f32⟩
  | 22 => ⟨S2048x8x32, .f32⟩
  | 23 => ⟨S2048x8x32, .f32⟩
  | 24 => ⟨S2048x8x1, .f32⟩
  | 25 => ⟨S2048x8x32, .f32⟩
  | 26 => ⟨S2048x8x32, .f32⟩
  | 27 => ⟨S2048x8x32, .f32⟩
  | 28 => ⟨S2048x8x32, .f32⟩
  | _ => ⟨S2048x8x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2048x8x32, .f32⟩

abbrev bufTy : (tb : Table) → Fin (tcTables nBuf tb) → BufTy
  | .hbm, ⟨i, _⟩ => hbmTy i
  | _, _ => ⟨S2048x8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_cst_3 : Ref sig .tc := ⟨.hbm, 45, rfl⟩
abbrev main_call0_v13 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_cst_1 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_cst_2 : Ref sig .tc := ⟨.hbm, 65, rfl⟩
abbrev main_v18 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_cst : Ref sig .tc := ⟨.hbm, 73, rfl⟩
abbrev main_call1_v5 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_cst_3 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_cst_4 : Ref sig .tc := ⟨.hbm, 91, rfl⟩
abbrev main_v34 : Ref sig .tc := ⟨.hbm, 92, rfl⟩
abbrev main_v35 : Ref sig .tc := ⟨.hbm, 93, rfl⟩
abbrev main_cst_5 : Ref sig .tc := ⟨.hbm, 94, rfl⟩
abbrev main_v36 : Ref sig .tc := ⟨.hbm, 95, rfl⟩
abbrev main_v37 : Ref sig .tc := ⟨.hbm, 96, rfl⟩
abbrev main_cst_6 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v38 : Ref sig .tc := ⟨.hbm, 101, rfl⟩
abbrev main_cst_7 : Ref sig .tc := ⟨.hbm, 102, rfl⟩
abbrev main_v39 : Ref sig .tc := ⟨.hbm, 103, rfl⟩
abbrev main_cst_8 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_9 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_cst_10 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_cst_11 : Ref sig .tc := ⟨.hbm, 135, rfl⟩
abbrev main_v68 : Ref sig .tc := ⟨.hbm, 136, rfl⟩
abbrev main_v69 : Ref sig .tc := ⟨.hbm, 137, rfl⟩
abbrev main_cst_12 : Ref sig .tc := ⟨.hbm, 138, rfl⟩
abbrev main_v70 : Ref sig .tc := ⟨.hbm, 139, rfl⟩
abbrev main_v71 : Ref sig .tc := ⟨.hbm, 140, rfl⟩
abbrev main_cst_13 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v72 : Ref sig .tc := ⟨.hbm, 145, rfl⟩
abbrev main_cst_14 : Ref sig .tc := ⟨.hbm, 146, rfl⟩
abbrev main_v73 : Ref sig .tc := ⟨.hbm, 147, rfl⟩
abbrev main_cst_15 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_cst_16 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_cst_17 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_cst_18 : Ref sig .tc := ⟨.hbm, 179, rfl⟩
abbrev main_v102 : Ref sig .tc := ⟨.hbm, 180, rfl⟩
abbrev main_v103 : Ref sig .tc := ⟨.hbm, 181, rfl⟩
abbrev main_cst_19 : Ref sig .tc := ⟨.hbm, 182, rfl⟩
abbrev main_v104 : Ref sig .tc := ⟨.hbm, 183, rfl⟩
abbrev main_v105 : Ref sig .tc := ⟨.hbm, 184, rfl⟩
abbrev main_cst_20 : Ref sig .tc := ⟨.hbm, 185, rfl⟩
abbrev main_call4_v0 : Ref sig .tc := ⟨.hbm, 186, rfl⟩
abbrev main_call4_v1 : Ref sig .tc := ⟨.hbm, 187, rfl⟩
abbrev main_call4_v2 : Ref sig .tc := ⟨.hbm, 188, rfl⟩
abbrev main_v106 : Ref sig .tc := ⟨.hbm, 189, rfl⟩
abbrev main_cst_21 : Ref sig .tc := ⟨.hbm, 190, rfl⟩
abbrev main_v107 : Ref sig .tc := ⟨.hbm, 191, rfl⟩
abbrev main_cst_22 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_cst_23 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_cst_24 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_25 : Ref sig .tc := ⟨.hbm, 223, rfl⟩
abbrev main_v136 : Ref sig .tc := ⟨.hbm, 224, rfl⟩
abbrev main_v137 : Ref sig .tc := ⟨.hbm, 225, rfl⟩
abbrev main_cst_26 : Ref sig .tc := ⟨.hbm, 226, rfl⟩
abbrev main_v138 : Ref sig .tc := ⟨.hbm, 227, rfl⟩
abbrev main_v139 : Ref sig .tc := ⟨.hbm, 228, rfl⟩
abbrev main_cst_27 : Ref sig .tc := ⟨.hbm, 229, rfl⟩
abbrev main_call5_v0 : Ref sig .tc := ⟨.hbm, 230, rfl⟩
abbrev main_call5_v1 : Ref sig .tc := ⟨.hbm, 231, rfl⟩
abbrev main_call5_v2 : Ref sig .tc := ⟨.hbm, 232, rfl⟩
abbrev main_v140 : Ref sig .tc := ⟨.hbm, 233, rfl⟩
abbrev main_cst_28 : Ref sig .tc := ⟨.hbm, 234, rfl⟩
abbrev main_v141 : Ref sig .tc := ⟨.hbm, 235, rfl⟩
abbrev main_cst_29 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_cst_30 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_cst_31 : Ref sig .tc := ⟨.hbm, 258, rfl⟩
abbrev main_v162 : Ref sig .tc := ⟨.hbm, 259, rfl⟩
abbrev main_v163 : Ref sig .tc := ⟨.hbm, 260, rfl⟩
abbrev main_cst_32 : Ref sig .tc := ⟨.hbm, 261, rfl⟩
abbrev main_v164 : Ref sig .tc := ⟨.hbm, 262, rfl⟩
abbrev main_v165 : Ref sig .tc := ⟨.hbm, 263, rfl⟩
abbrev main_c_33 : Ref sig .tc := ⟨.hbm, 264, rfl⟩
abbrev main_call6_cst : Ref sig .tc := ⟨.hbm, 265, rfl⟩
abbrev main_call6_v0 : Ref sig .tc := ⟨.hbm, 266, rfl⟩
abbrev main_call6_v1 : Ref sig .tc := ⟨.hbm, 267, rfl⟩
abbrev main_call6_cst_0 : Ref sig .tc := ⟨.hbm, 268, rfl⟩
abbrev main_call6_v2 : Ref sig .tc := ⟨.hbm, 269, rfl⟩
abbrev main_call6_v3 : Ref sig .tc := ⟨.hbm, 270, rfl⟩
abbrev main_call6_v4 : Ref sig .tc := ⟨.hbm, 271, rfl⟩
abbrev main_call6_v5 : Ref sig .tc := ⟨.hbm, 272, rfl⟩
abbrev main_call6_v6 : Ref sig .tc := ⟨.hbm, 273, rfl⟩
abbrev main_call6_v7 : Ref sig .tc := ⟨.hbm, 274, rfl⟩
abbrev main_call6_cst_1 : Ref sig .tc := ⟨.hbm, 275, rfl⟩
abbrev main_call6_v8 : Ref sig .tc := ⟨.hbm, 276, rfl⟩
abbrev main_call6_cst_2 : Ref sig .tc := ⟨.hbm, 277, rfl⟩
abbrev main_call6_v9 : Ref sig .tc := ⟨.hbm, 278, rfl⟩
abbrev main_call6_v10 : Ref sig .tc := ⟨.hbm, 279, rfl⟩
abbrev main_call6_v11 : Ref sig .tc := ⟨.hbm, 280, rfl⟩
abbrev main_call6_v12 : Ref sig .tc := ⟨.hbm, 281, rfl⟩
abbrev main_call6_cst_3 : Ref sig .tc := ⟨.hbm, 282, rfl⟩
abbrev main_call6_v13 : Ref sig .tc := ⟨.hbm, 283, rfl⟩
abbrev main_call6_cst_4 : Ref sig .tc := ⟨.hbm, 284, rfl⟩
abbrev main_call6_call0_v0 : Ref sig .tc := ⟨.hbm, 285, rfl⟩
abbrev main_call6_call0_v1 : Ref sig .tc := ⟨.hbm, 286, rfl⟩
abbrev main_v166 : Ref sig .tc := ⟨.hbm, 287, rfl⟩
abbrev main_v167 : Ref sig .tc := ⟨.hbm, 288, rfl⟩
abbrev main_v168 : Ref sig .tc := ⟨.hbm, 289, rfl⟩
abbrev main_cst_34 : Ref sig .tc := ⟨.hbm, 290, rfl⟩
abbrev main_v169 : Ref sig .tc := ⟨.hbm, 291, rfl⟩
abbrev main_v170 : Ref sig .tc := ⟨.hbm, 292, rfl⟩
abbrev main_v171 : Ref sig .tc := ⟨.hbm, 293, rfl⟩
abbrev main_v172 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩
abbrev main_v176 : Ref sig .tc := ⟨.hbm, 298, rfl⟩
abbrev main_v177 : Ref sig .tc := ⟨.hbm, 299, rfl⟩
abbrev main_v178 : Ref sig .tc := ⟨.hbm, 300, rfl⟩
abbrev main_v179 : Ref sig .tc := ⟨.hbm, 301, rfl⟩
abbrev main_v180 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_values : Ref sig .tc := ⟨.hbm, 306, rfl⟩
abbrev main_indices : Ref sig .tc := ⟨.hbm, 307, rfl⟩
abbrev main_cst_35 : Ref sig .tc := ⟨.hbm, 308, rfl⟩
abbrev main_v184 : Ref sig .tc := ⟨.hbm, 309, rfl⟩
abbrev main_cst_36 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_v190 : Ref sig .tc := ⟨.hbm, 316, rfl⟩
abbrev main_cst_37 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩
abbrev main_cst_38 : Ref sig .tc := ⟨.hbm, 322, rfl⟩
abbrev main_v195 : Ref sig .tc := ⟨.hbm, 323, rfl⟩
abbrev main_c_39 : Ref sig .tc := ⟨.hbm, 324, rfl⟩
abbrev main_v196 : Ref sig .tc := ⟨.hbm, 325, rfl⟩
abbrev main_v197 : Ref sig .tc := ⟨.hbm, 326, rfl⟩
abbrev main_cst_40 : Ref sig .tc := ⟨.hbm, 327, rfl⟩
abbrev main_call7_v0 : Ref sig .tc := ⟨.hbm, 328, rfl⟩
abbrev main_call7_v1 : Ref sig .tc := ⟨.hbm, 329, rfl⟩
abbrev main_v198 : Ref sig .tc := ⟨.hbm, 330, rfl⟩
abbrev main_cst_41 : Ref sig .tc := ⟨.hbm, 331, rfl⟩
abbrev main_v199 : Ref sig .tc := ⟨.hbm, 332, rfl⟩
abbrev main_v200 : Ref sig .tc := ⟨.hbm, 333, rfl⟩
abbrev main_v201 : Ref sig .tc := ⟨.hbm, 334, rfl⟩
abbrev main_v202 : Ref sig .tc := ⟨.hbm, 335, rfl⟩
abbrev main_v203 : Ref sig .tc := ⟨.hbm, 336, rfl⟩
abbrev main_v204 : Ref sig .tc := ⟨.hbm, 337, rfl⟩
abbrev main_v205 : Ref sig .tc := ⟨.hbm, 338, rfl⟩
abbrev main_v206 : Ref sig .tc := ⟨.hbm, 339, rfl⟩
abbrev main_v207 : Ref sig .tc := ⟨.hbm, 340, rfl⟩
abbrev main_v208 : Ref sig .tc := ⟨.hbm, 341, rfl⟩
abbrev main_v209 : Ref sig .tc := ⟨.hbm, 342, rfl⟩
abbrev main_v210 : Ref sig .tc := ⟨.hbm, 343, rfl⟩
abbrev main_v211 : Ref sig .tc := ⟨.hbm, 344, rfl⟩
abbrev main_v212 : Ref sig .tc := ⟨.hbm, 345, rfl⟩
abbrev main_v213 : Ref sig .tc := ⟨.hbm, 346, rfl⟩
abbrev main_v214 : Ref sig .tc := ⟨.hbm, 347, rfl⟩
abbrev main_v215 : Ref sig .tc := ⟨.hbm, 348, rfl⟩
abbrev main_v216 : Ref sig .tc := ⟨.hbm, 349, rfl⟩
abbrev main_v217 : Ref sig .tc := ⟨.hbm, 350, rfl⟩
abbrev main_v218 : Ref sig .tc := ⟨.hbm, 351, rfl⟩
abbrev main_v219 : Ref sig .tc := ⟨.hbm, 352, rfl⟩
abbrev main_v220 : Ref sig .tc := ⟨.hbm, 353, rfl⟩
abbrev main_v221 : Ref sig .tc := ⟨.hbm, 354, rfl⟩
abbrev main_v222 : Ref sig .tc := ⟨.hbm, 355, rfl⟩
abbrev main_v223 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_v227 : Ref sig .tc := ⟨.hbm, 360, rfl⟩
abbrev main_v228 : Ref sig .tc := ⟨.hbm, 361, rfl⟩
abbrev main_v229 : Ref sig .tc := ⟨.hbm, 362, rfl⟩
abbrev main_cst_42 : Ref sig .tc := ⟨.hbm, 363, rfl⟩
abbrev main_v230 : Ref sig .tc := ⟨.hbm, 364, rfl⟩
abbrev main_v231 : Ref sig .tc := ⟨.hbm, 365, rfl⟩
abbrev main_cst_43 : Ref sig .tc := ⟨.hbm, 366, rfl⟩
abbrev main_v232 : Ref sig .tc := ⟨.hbm, 367, rfl⟩
abbrev main_v233 : Ref sig .tc := ⟨.hbm, 368, rfl⟩
abbrev main_v234 : Ref sig .tc := ⟨.hbm, 369, rfl⟩
abbrev main_v235 : Ref sig .tc := ⟨.hbm, 370, rfl⟩
abbrev main_v236 : Ref sig .tc := ⟨.hbm, 371, rfl⟩
abbrev main_v237 : Ref sig .tc := ⟨.hbm, 372, rfl⟩
abbrev main_v238 : Ref sig .tc := ⟨.hbm, 373, rfl⟩
abbrev main_v239 : Ref sig .tc := ⟨.hbm, 374, rfl⟩
abbrev main_v240 : Ref sig .tc := ⟨.hbm, 375, rfl⟩
abbrev main_v241 : Ref sig .tc := ⟨.hbm, 376, rfl⟩
abbrev main_v242 : Ref sig .tc := ⟨.hbm, 377, rfl⟩
abbrev main_v243 : Ref sig .tc := ⟨.hbm, 378, rfl⟩
abbrev main_v244 : Ref sig .tc := ⟨.hbm, 379, rfl⟩
abbrev main_v245 : Ref sig .tc := ⟨.hbm, 380, rfl⟩
abbrev main_v246 : Ref sig .tc := ⟨.hbm, 381, rfl⟩
abbrev main_v247 : Ref sig .tc := ⟨.hbm, 382, rfl⟩
abbrev main_c_44 : Ref sig .tc := ⟨.hbm, 383, rfl⟩
abbrev main_v248 : Ref sig .tc := ⟨.hbm, 384, rfl⟩
abbrev main_v249 : Ref sig .tc := ⟨.hbm, 385, rfl⟩
abbrev main_cst_45 : Ref sig .tc := ⟨.hbm, 386, rfl⟩
abbrev main_call8_v0 : Ref sig .tc := ⟨.hbm, 387, rfl⟩
abbrev main_call8_v1 : Ref sig .tc := ⟨.hbm, 388, rfl⟩
abbrev main_v250 : Ref sig .tc := ⟨.hbm, 389, rfl⟩
abbrev main_cst_46 : Ref sig .tc := ⟨.hbm, 390, rfl⟩
abbrev main_v251 : Ref sig .tc := ⟨.hbm, 391, rfl⟩
abbrev main_v252 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_v256 : Ref sig .tc := ⟨.hbm, 396, rfl⟩
abbrev main_v257 : Ref sig .tc := ⟨.hbm, 397, rfl⟩
abbrev main_v258 : Ref sig .tc := ⟨.hbm, 398, rfl⟩
abbrev main_v259 : Ref sig .tc := ⟨.hbm, 399, rfl⟩
abbrev main_v260 : Ref sig .tc := ⟨.hbm, 400, rfl⟩
abbrev main_v261 : Ref sig .tc := ⟨.hbm, 401, rfl⟩
abbrev main_v262 : Ref sig .tc := ⟨.hbm, 402, rfl⟩
abbrev main_v263 : Ref sig .tc := ⟨.hbm, 403, rfl⟩
abbrev main_v264 : Ref sig .tc := ⟨.hbm, 404, rfl⟩
abbrev main_v265 : Ref sig .tc := ⟨.hbm, 405, rfl⟩
abbrev main_v266 : Ref sig .tc := ⟨.hbm, 406, rfl⟩
abbrev main_v267 : Ref sig .tc := ⟨.hbm, 407, rfl⟩
abbrev main_v268 : Ref sig .tc := ⟨.hbm, 408, rfl⟩
abbrev main_v269 : Ref sig .tc := ⟨.hbm, 409, rfl⟩
abbrev main_v270 : Ref sig .tc := ⟨.hbm, 410, rfl⟩
abbrev main_v271 : Ref sig .tc := ⟨.hbm, 411, rfl⟩
abbrev main_v272 : Ref sig .tc := ⟨.hbm, 412, rfl⟩
abbrev main_v273 : Ref sig .tc := ⟨.hbm, 413, rfl⟩
abbrev main_v274 : Ref sig .tc := ⟨.hbm, 414, rfl⟩
abbrev main_v275 : Ref sig .tc := ⟨.hbm, 415, rfl⟩
abbrev main_v276 : Ref sig .tc := ⟨.hbm, 416, rfl⟩
abbrev main_v277 : Ref sig .tc := ⟨.hbm, 417, rfl⟩
abbrev main_v278 : Ref sig .tc := ⟨.hbm, 418, rfl⟩
abbrev main_v279 : Ref sig .tc := ⟨.hbm, 419, rfl⟩
abbrev main_v280 : Ref sig .tc := ⟨.hbm, 420, rfl⟩
abbrev main_v281 : Ref sig .tc := ⟨.hbm, 421, rfl⟩
abbrev main_cst_47 : Ref sig .tc := ⟨.hbm, 422, rfl⟩
abbrev main_v282 : Ref sig .tc := ⟨.hbm, 423, rfl⟩
abbrev main_v283 : Ref sig .tc := ⟨.hbm, 424, rfl⟩
abbrev main_cst_48 : Ref sig .tc := ⟨.hbm, 425, rfl⟩
abbrev main_v284 : Ref sig .tc := ⟨.hbm, 426, rfl⟩
abbrev main_v285 : Ref sig .tc := ⟨.hbm, 427, rfl⟩
abbrev main_v286 : Ref sig .tc := ⟨.hbm, 428, rfl⟩
abbrev main_v287 : Ref sig .tc := ⟨.hbm, 429, rfl⟩
abbrev main_v288 : Ref sig .tc := ⟨.hbm, 430, rfl⟩
abbrev main_v289 : Ref sig .tc := ⟨.hbm, 431, rfl⟩
abbrev main_v290 : Ref sig .tc := ⟨.hbm, 432, rfl⟩
abbrev main_v291 : Ref sig .tc := ⟨.hbm, 433, rfl⟩
abbrev main_v292 : Ref sig .tc := ⟨.hbm, 434, rfl⟩
abbrev main_v293 : Ref sig .tc := ⟨.hbm, 435, rfl⟩
abbrev main_v294 : Ref sig .tc := ⟨.hbm, 436, rfl⟩
abbrev main_v295 : Ref sig .tc := ⟨.hbm, 437, rfl⟩
abbrev main_v296 : Ref sig .tc := ⟨.hbm, 438, rfl⟩
abbrev main_v297 : Ref sig .tc := ⟨.hbm, 439, rfl⟩
abbrev main_v298 : Ref sig .tc := ⟨.hbm, 440, rfl⟩
abbrev main_v299 : Ref sig .tc := ⟨.hbm, 441, rfl⟩
abbrev main_c_49 : Ref sig .tc := ⟨.hbm, 442, rfl⟩
abbrev main_v300 : Ref sig .tc := ⟨.hbm, 443, rfl⟩
abbrev main_v301 : Ref sig .tc := ⟨.hbm, 444, rfl⟩
abbrev main_cst_50 : Ref sig .tc := ⟨.hbm, 445, rfl⟩
abbrev main_call9_v0 : Ref sig .tc := ⟨.hbm, 446, rfl⟩
abbrev main_call9_v1 : Ref sig .tc := ⟨.hbm, 447, rfl⟩
abbrev main_v302 : Ref sig .tc := ⟨.hbm, 448, rfl⟩
abbrev main_cst_51 : Ref sig .tc := ⟨.hbm, 449, rfl⟩
abbrev main_v303 : Ref sig .tc := ⟨.hbm, 450, rfl⟩
abbrev main_v304 : Ref sig .tc := ⟨.hbm, 451, rfl⟩
abbrev main_v305 : Ref sig .tc := ⟨.hbm, 452, rfl⟩
abbrev main_v306 : Ref sig .tc := ⟨.hbm, 453, rfl⟩
abbrev main_v307 : Ref sig .tc := ⟨.hbm, 454, rfl⟩
abbrev main_v308 : Ref sig .tc := ⟨.hbm, 455, rfl⟩
abbrev main_v309 : Ref sig .tc := ⟨.hbm, 456, rfl⟩
abbrev main_v310 : Ref sig .tc := ⟨.hbm, 457, rfl⟩
abbrev main_v311 : Ref sig .tc := ⟨.hbm, 458, rfl⟩
abbrev main_v312 : Ref sig .tc := ⟨.hbm, 459, rfl⟩
abbrev main_v313 : Ref sig .tc := ⟨.hbm, 460, rfl⟩
abbrev main_v314 : Ref sig .tc := ⟨.hbm, 461, rfl⟩
abbrev main_v315 : Ref sig .tc := ⟨.hbm, 462, rfl⟩
abbrev main_v316 : Ref sig .tc := ⟨.hbm, 463, rfl⟩
abbrev main_v317 : Ref sig .tc := ⟨.hbm, 464, rfl⟩
abbrev main_v318 : Ref sig .tc := ⟨.hbm, 465, rfl⟩
abbrev main_v319 : Ref sig .tc := ⟨.hbm, 466, rfl⟩
abbrev main_v320 : Ref sig .tc := ⟨.hbm, 467, rfl⟩
abbrev main_v321 : Ref sig .tc := ⟨.hbm, 468, rfl⟩
abbrev main_v322 : Ref sig .tc := ⟨.hbm, 469, rfl⟩
abbrev main_v323 : Ref sig .tc := ⟨.hbm, 470, rfl⟩
abbrev main_v324 : Ref sig .tc := ⟨.hbm, 471, rfl⟩
abbrev main_v325 : Ref sig .tc := ⟨.hbm, 472, rfl⟩
abbrev main_v326 : Ref sig .tc := ⟨.hbm, 473, rfl⟩
abbrev main_v327 : Ref sig .tc := ⟨.hbm, 474, rfl⟩
abbrev main_v328 : Ref sig .tc := ⟨.hbm, 475, rfl⟩
abbrev main_v329 : Ref sig .tc := ⟨.hbm, 476, rfl⟩
abbrev main_v330 : Ref sig .tc := ⟨.hbm, 477, rfl⟩
abbrev main_v331 : Ref sig .tc := ⟨.hbm, 478, rfl⟩
abbrev main_v332 : Ref sig .tc := ⟨.hbm, 479, rfl⟩
abbrev main_v333 : Ref sig .tc := ⟨.hbm, 480, rfl⟩
abbrev main_cst_52 : Ref sig .tc := ⟨.hbm, 481, rfl⟩
abbrev main_v334 : Ref sig .tc := ⟨.hbm, 482, rfl⟩
abbrev main_v335 : Ref sig .tc := ⟨.hbm, 483, rfl⟩
abbrev main_cst_53 : Ref sig .tc := ⟨.hbm, 484, rfl⟩
abbrev main_v336 : Ref sig .tc := ⟨.hbm, 485, rfl⟩
abbrev main_v337 : Ref sig .tc := ⟨.hbm, 486, rfl⟩
abbrev main_v338 : Ref sig .tc := ⟨.hbm, 487, rfl⟩
abbrev main_v339 : Ref sig .tc := ⟨.hbm, 488, rfl⟩
abbrev main_v340 : Ref sig .tc := ⟨.hbm, 489, rfl⟩
abbrev main_v341 : Ref sig .tc := ⟨.hbm, 490, rfl⟩
abbrev main_v342 : Ref sig .tc := ⟨.hbm, 491, rfl⟩
abbrev main_v343 : Ref sig .tc := ⟨.hbm, 492, rfl⟩
abbrev main_v344 : Ref sig .tc := ⟨.hbm, 493, rfl⟩
abbrev main_v345 : Ref sig .tc := ⟨.hbm, 494, rfl⟩
abbrev main_v346 : Ref sig .tc := ⟨.hbm, 495, rfl⟩
abbrev main_v347 : Ref sig .tc := ⟨.hbm, 496, rfl⟩
abbrev main_v348 : Ref sig .tc := ⟨.hbm, 497, rfl⟩
abbrev main_v349 : Ref sig .tc := ⟨.hbm, 498, rfl⟩
abbrev main_v350 : Ref sig .tc := ⟨.hbm, 499, rfl⟩
abbrev main_v351 : Ref sig .tc := ⟨.hbm, 500, rfl⟩
abbrev main_c_54 : Ref sig .tc := ⟨.hbm, 501, rfl⟩
abbrev main_v352 : Ref sig .tc := ⟨.hbm, 502, rfl⟩
abbrev main_v353 : Ref sig .tc := ⟨.hbm, 503, rfl⟩
abbrev main_cst_55 : Ref sig .tc := ⟨.hbm, 504, rfl⟩
abbrev main_call10_v0 : Ref sig .tc := ⟨.hbm, 505, rfl⟩
abbrev main_call10_v1 : Ref sig .tc := ⟨.hbm, 506, rfl⟩
abbrev main_v354 : Ref sig .tc := ⟨.hbm, 507, rfl⟩
abbrev main_cst_56 : Ref sig .tc := ⟨.hbm, 508, rfl⟩
abbrev main_v355 : Ref sig .tc := ⟨.hbm, 509, rfl⟩
abbrev main_v356 : Ref sig .tc := ⟨.hbm, 510, rfl⟩
abbrev main_v357 : Ref sig .tc := ⟨.hbm, 511, rfl⟩
abbrev main_v358 : Ref sig .tc := ⟨.hbm, 512, rfl⟩
abbrev main_v359 : Ref sig .tc := ⟨.hbm, 513, rfl⟩
abbrev main_v360 : Ref sig .tc := ⟨.hbm, 514, rfl⟩
abbrev main_v361 : Ref sig .tc := ⟨.hbm, 515, rfl⟩
abbrev main_v362 : Ref sig .tc := ⟨.hbm, 516, rfl⟩
abbrev main_v363 : Ref sig .tc := ⟨.hbm, 517, rfl⟩
abbrev main_v364 : Ref sig .tc := ⟨.hbm, 518, rfl⟩
abbrev main_v365 : Ref sig .tc := ⟨.hbm, 519, rfl⟩
abbrev main_v366 : Ref sig .tc := ⟨.hbm, 520, rfl⟩
abbrev main_v367 : Ref sig .tc := ⟨.hbm, 521, rfl⟩
abbrev main_v368 : Ref sig .tc := ⟨.hbm, 522, rfl⟩
abbrev main_v369 : Ref sig .tc := ⟨.hbm, 523, rfl⟩
abbrev main_v370 : Ref sig .tc := ⟨.hbm, 524, rfl⟩
abbrev main_v371 : Ref sig .tc := ⟨.hbm, 525, rfl⟩
abbrev main_v372 : Ref sig .tc := ⟨.hbm, 526, rfl⟩
abbrev main_v373 : Ref sig .tc := ⟨.hbm, 527, rfl⟩
abbrev main_v374 : Ref sig .tc := ⟨.hbm, 528, rfl⟩
abbrev main_v375 : Ref sig .tc := ⟨.hbm, 529, rfl⟩
abbrev main_v376 : Ref sig .tc := ⟨.hbm, 530, rfl⟩
abbrev main_v377 : Ref sig .tc := ⟨.hbm, 531, rfl⟩
abbrev main_v378 : Ref sig .tc := ⟨.hbm, 532, rfl⟩
abbrev main_v379 : Ref sig .tc := ⟨.hbm, 533, rfl⟩
abbrev main_v380 : Ref sig .tc := ⟨.hbm, 534, rfl⟩
abbrev main_v381 : Ref sig .tc := ⟨.hbm, 535, rfl⟩
abbrev main_v382 : Ref sig .tc := ⟨.hbm, 536, rfl⟩
abbrev main_v383 : Ref sig .tc := ⟨.hbm, 537, rfl⟩
abbrev main_v384 : Ref sig .tc := ⟨.hbm, 538, rfl⟩
abbrev main_v385 : Ref sig .tc := ⟨.hbm, 539, rfl⟩
abbrev main_cst_57 : Ref sig .tc := ⟨.hbm, 540, rfl⟩
abbrev main_v386 : Ref sig .tc := ⟨.hbm, 541, rfl⟩
abbrev main_v387 : Ref sig .tc := ⟨.hbm, 542, rfl⟩
abbrev main_cst_58 : Ref sig .tc := ⟨.hbm, 543, rfl⟩
abbrev main_v388 : Ref sig .tc := ⟨.hbm, 544, rfl⟩
abbrev main_v389 : Ref sig .tc := ⟨.hbm, 545, rfl⟩
abbrev main_v390 : Ref sig .tc := ⟨.hbm, 546, rfl⟩
abbrev main_v391 : Ref sig .tc := ⟨.hbm, 547, rfl⟩
abbrev main_v392 : Ref sig .tc := ⟨.hbm, 548, rfl⟩
abbrev main_v393 : Ref sig .tc := ⟨.hbm, 549, rfl⟩
abbrev main_v394 : Ref sig .tc := ⟨.hbm, 550, rfl⟩
abbrev main_v395 : Ref sig .tc := ⟨.hbm, 551, rfl⟩
abbrev main_v396 : Ref sig .tc := ⟨.hbm, 552, rfl⟩
abbrev main_v397 : Ref sig .tc := ⟨.hbm, 553, rfl⟩
abbrev main_v398 : Ref sig .tc := ⟨.hbm, 554, rfl⟩
abbrev main_v399 : Ref sig .tc := ⟨.hbm, 555, rfl⟩
abbrev main_v400 : Ref sig .tc := ⟨.hbm, 556, rfl⟩
abbrev main_v401 : Ref sig .tc := ⟨.hbm, 557, rfl⟩
abbrev main_v402 : Ref sig .tc := ⟨.hbm, 558, rfl⟩
abbrev main_v403 : Ref sig .tc := ⟨.hbm, 559, rfl⟩
abbrev main_c_59 : Ref sig .tc := ⟨.hbm, 560, rfl⟩
abbrev main_v404 : Ref sig .tc := ⟨.hbm, 561, rfl⟩
abbrev main_v405 : Ref sig .tc := ⟨.hbm, 562, rfl⟩
abbrev main_cst_60 : Ref sig .tc := ⟨.hbm, 563, rfl⟩
abbrev main_call11_v0 : Ref sig .tc := ⟨.hbm, 564, rfl⟩
abbrev main_call11_v1 : Ref sig .tc := ⟨.hbm, 565, rfl⟩
abbrev main_v406 : Ref sig .tc := ⟨.hbm, 566, rfl⟩
abbrev main_cst_61 : Ref sig .tc := ⟨.hbm, 567, rfl⟩
abbrev main_v407 : Ref sig .tc := ⟨.hbm, 568, rfl⟩
abbrev main_v408 : Ref sig .tc := ⟨.hbm, 569, rfl⟩
abbrev main_v409 : Ref sig .tc := ⟨.hbm, 570, rfl⟩
abbrev main_v410 : Ref sig .tc := ⟨.hbm, 571, rfl⟩
abbrev main_v411 : Ref sig .tc := ⟨.hbm, 572, rfl⟩
abbrev main_v412 : Ref sig .tc := ⟨.hbm, 573, rfl⟩
abbrev main_v413 : Ref sig .tc := ⟨.hbm, 574, rfl⟩
abbrev main_v414 : Ref sig .tc := ⟨.hbm, 575, rfl⟩
abbrev main_v415 : Ref sig .tc := ⟨.hbm, 576, rfl⟩
abbrev main_v416 : Ref sig .tc := ⟨.hbm, 577, rfl⟩
abbrev main_v417 : Ref sig .tc := ⟨.hbm, 578, rfl⟩
abbrev main_v418 : Ref sig .tc := ⟨.hbm, 579, rfl⟩
abbrev main_v419 : Ref sig .tc := ⟨.hbm, 580, rfl⟩
abbrev main_v420 : Ref sig .tc := ⟨.hbm, 581, rfl⟩
abbrev main_v421 : Ref sig .tc := ⟨.hbm, 582, rfl⟩
abbrev main_v422 : Ref sig .tc := ⟨.hbm, 583, rfl⟩
abbrev main_v423 : Ref sig .tc := ⟨.hbm, 584, rfl⟩
abbrev main_v424 : Ref sig .tc := ⟨.hbm, 585, rfl⟩
abbrev main_v425 : Ref sig .tc := ⟨.hbm, 586, rfl⟩
abbrev main_v426 : Ref sig .tc := ⟨.hbm, 587, rfl⟩
abbrev main_v427 : Ref sig .tc := ⟨.hbm, 588, rfl⟩
abbrev main_v428 : Ref sig .tc := ⟨.hbm, 589, rfl⟩
abbrev main_v429 : Ref sig .tc := ⟨.hbm, 590, rfl⟩
abbrev main_v430 : Ref sig .tc := ⟨.hbm, 591, rfl⟩
abbrev main_v431 : Ref sig .tc := ⟨.hbm, 592, rfl⟩
abbrev main_v432 : Ref sig .tc := ⟨.hbm, 593, rfl⟩
abbrev main_v433 : Ref sig .tc := ⟨.hbm, 594, rfl⟩
abbrev main_v434 : Ref sig .tc := ⟨.hbm, 595, rfl⟩
abbrev main_v435 : Ref sig .tc := ⟨.hbm, 596, rfl⟩
abbrev main_v436 : Ref sig .tc := ⟨.hbm, 597, rfl⟩
abbrev main_v437 : Ref sig .tc := ⟨.hbm, 598, rfl⟩
abbrev main_cst_62 : Ref sig .tc := ⟨.hbm, 599, rfl⟩
abbrev main_v438 : Ref sig .tc := ⟨.hbm, 600, rfl⟩
abbrev main_v439 : Ref sig .tc := ⟨.hbm, 601, rfl⟩
abbrev main_cst_63 : Ref sig .tc := ⟨.hbm, 602, rfl⟩
abbrev main_v440 : Ref sig .tc := ⟨.hbm, 603, rfl⟩
abbrev main_v441 : Ref sig .tc := ⟨.hbm, 604, rfl⟩
abbrev main_v442 : Ref sig .tc := ⟨.hbm, 605, rfl⟩
abbrev main_v443 : Ref sig .tc := ⟨.hbm, 606, rfl⟩
abbrev main_v444 : Ref sig .tc := ⟨.hbm, 607, rfl⟩
abbrev main_v445 : Ref sig .tc := ⟨.hbm, 608, rfl⟩
abbrev main_v446 : Ref sig .tc := ⟨.hbm, 609, rfl⟩
abbrev main_v447 : Ref sig .tc := ⟨.hbm, 610, rfl⟩
abbrev main_v448 : Ref sig .tc := ⟨.hbm, 611, rfl⟩
abbrev main_v449 : Ref sig .tc := ⟨.hbm, 612, rfl⟩
abbrev main_v450 : Ref sig .tc := ⟨.hbm, 613, rfl⟩
abbrev main_v451 : Ref sig .tc := ⟨.hbm, 614, rfl⟩
abbrev main_v452 : Ref sig .tc := ⟨.hbm, 615, rfl⟩
abbrev main_v453 : Ref sig .tc := ⟨.hbm, 616, rfl⟩
abbrev main_v454 : Ref sig .tc := ⟨.hbm, 617, rfl⟩
abbrev main_v455 : Ref sig .tc := ⟨.hbm, 618, rfl⟩
abbrev main_c_64 : Ref sig .tc := ⟨.hbm, 619, rfl⟩
abbrev main_v456 : Ref sig .tc := ⟨.hbm, 620, rfl⟩
abbrev main_v457 : Ref sig .tc := ⟨.hbm, 621, rfl⟩
abbrev main_cst_65 : Ref sig .tc := ⟨.hbm, 622, rfl⟩
abbrev main_call12_v0 : Ref sig .tc := ⟨.hbm, 623, rfl⟩
abbrev main_call12_v1 : Ref sig .tc := ⟨.hbm, 624, rfl⟩
abbrev main_v458 : Ref sig .tc := ⟨.hbm, 625, rfl⟩
abbrev main_cst_66 : Ref sig .tc := ⟨.hbm, 626, rfl⟩
abbrev main_v459 : Ref sig .tc := ⟨.hbm, 627, rfl⟩
abbrev main_v460 : Ref sig .tc := ⟨.hbm, 628, rfl⟩
abbrev main_v461 : Ref sig .tc := ⟨.hbm, 629, rfl⟩
abbrev main_v462 : Ref sig .tc := ⟨.hbm, 630, rfl⟩
abbrev main_v463 : Ref sig .tc := ⟨.hbm, 631, rfl⟩
abbrev main_v464 : Ref sig .tc := ⟨.hbm, 632, rfl⟩
abbrev main_v465 : Ref sig .tc := ⟨.hbm, 633, rfl⟩
abbrev main_v466 : Ref sig .tc := ⟨.hbm, 634, rfl⟩
abbrev main_v467 : Ref sig .tc := ⟨.hbm, 635, rfl⟩
abbrev main_v468 : Ref sig .tc := ⟨.hbm, 636, rfl⟩
abbrev main_v469 : Ref sig .tc := ⟨.hbm, 637, rfl⟩
abbrev main_v470 : Ref sig .tc := ⟨.hbm, 638, rfl⟩
abbrev main_v471 : Ref sig .tc := ⟨.hbm, 639, rfl⟩
abbrev main_v472 : Ref sig .tc := ⟨.hbm, 640, rfl⟩
abbrev main_v473 : Ref sig .tc := ⟨.hbm, 641, rfl⟩
abbrev main_v474 : Ref sig .tc := ⟨.hbm, 642, rfl⟩
abbrev main_v475 : Ref sig .tc := ⟨.hbm, 643, rfl⟩
abbrev main_v476 : Ref sig .tc := ⟨.hbm, 644, rfl⟩
abbrev main_v477 : Ref sig .tc := ⟨.hbm, 645, rfl⟩
abbrev main_v478 : Ref sig .tc := ⟨.hbm, 646, rfl⟩
abbrev main_v479 : Ref sig .tc := ⟨.hbm, 647, rfl⟩
abbrev main_v480 : Ref sig .tc := ⟨.hbm, 648, rfl⟩
abbrev main_v481 : Ref sig .tc := ⟨.hbm, 649, rfl⟩
abbrev main_v482 : Ref sig .tc := ⟨.hbm, 650, rfl⟩
abbrev main_v483 : Ref sig .tc := ⟨.hbm, 651, rfl⟩
abbrev main_v484 : Ref sig .tc := ⟨.hbm, 652, rfl⟩
abbrev main_v485 : Ref sig .tc := ⟨.hbm, 653, rfl⟩
abbrev main_v486 : Ref sig .tc := ⟨.hbm, 654, rfl⟩
abbrev main_v487 : Ref sig .tc := ⟨.hbm, 655, rfl⟩
abbrev main_v488 : Ref sig .tc := ⟨.hbm, 656, rfl⟩
abbrev main_v489 : Ref sig .tc := ⟨.hbm, 657, rfl⟩
abbrev main_cst_67 : Ref sig .tc := ⟨.hbm, 658, rfl⟩
abbrev main_v490 : Ref sig .tc := ⟨.hbm, 659, rfl⟩
abbrev main_v491 : Ref sig .tc := ⟨.hbm, 660, rfl⟩
abbrev main_cst_68 : Ref sig .tc := ⟨.hbm, 661, rfl⟩
abbrev main_v492 : Ref sig .tc := ⟨.hbm, 662, rfl⟩
abbrev main_v493 : Ref sig .tc := ⟨.hbm, 663, rfl⟩
abbrev main_v494 : Ref sig .tc := ⟨.hbm, 664, rfl⟩
abbrev main_v495 : Ref sig .tc := ⟨.hbm, 665, rfl⟩
abbrev main_v496 : Ref sig .tc := ⟨.hbm, 666, rfl⟩
abbrev main_v497 : Ref sig .tc := ⟨.hbm, 667, rfl⟩
abbrev main_v498 : Ref sig .tc := ⟨.hbm, 668, rfl⟩
abbrev main_v499 : Ref sig .tc := ⟨.hbm, 669, rfl⟩
abbrev main_v500 : Ref sig .tc := ⟨.hbm, 670, rfl⟩
abbrev main_v501 : Ref sig .tc := ⟨.hbm, 671, rfl⟩
abbrev main_v502 : Ref sig .tc := ⟨.hbm, 672, rfl⟩
abbrev main_v503 : Ref sig .tc := ⟨.hbm, 673, rfl⟩
abbrev main_v504 : Ref sig .tc := ⟨.hbm, 674, rfl⟩
abbrev main_v505 : Ref sig .tc := ⟨.hbm, 675, rfl⟩
abbrev main_v506 : Ref sig .tc := ⟨.hbm, 676, rfl⟩
abbrev main_v507 : Ref sig .tc := ⟨.hbm, 677, rfl⟩
abbrev main_c_69 : Ref sig .tc := ⟨.hbm, 678, rfl⟩
abbrev main_v508 : Ref sig .tc := ⟨.hbm, 679, rfl⟩
abbrev main_v509 : Ref sig .tc := ⟨.hbm, 680, rfl⟩
abbrev main_cst_70 : Ref sig .tc := ⟨.hbm, 681, rfl⟩
abbrev main_call13_v0 : Ref sig .tc := ⟨.hbm, 682, rfl⟩
abbrev main_call13_v1 : Ref sig .tc := ⟨.hbm, 683, rfl⟩
abbrev main_v510 : Ref sig .tc := ⟨.hbm, 684, rfl⟩
abbrev main_cst_71 : Ref sig .tc := ⟨.hbm, 685, rfl⟩
abbrev main_v511 : Ref sig .tc := ⟨.hbm, 686, rfl⟩
abbrev main_v512 : Ref sig .tc := ⟨.hbm, 687, rfl⟩
abbrev main_v513 : Ref sig .tc := ⟨.hbm, 688, rfl⟩
abbrev main_v514 : Ref sig .tc := ⟨.hbm, 689, rfl⟩
abbrev main_v515 : Ref sig .tc := ⟨.hbm, 690, rfl⟩
abbrev main_v516 : Ref sig .tc := ⟨.hbm, 691, rfl⟩
abbrev main_v517 : Ref sig .tc := ⟨.hbm, 692, rfl⟩
abbrev main_v518 : Ref sig .tc := ⟨.hbm, 693, rfl⟩
abbrev main_v519 : Ref sig .tc := ⟨.hbm, 694, rfl⟩
abbrev main_v520 : Ref sig .tc := ⟨.hbm, 695, rfl⟩
abbrev main_v521 : Ref sig .tc := ⟨.hbm, 696, rfl⟩
abbrev main_v522 : Ref sig .tc := ⟨.hbm, 697, rfl⟩
abbrev main_v523 : Ref sig .tc := ⟨.hbm, 698, rfl⟩
abbrev main_v524 : Ref sig .tc := ⟨.hbm, 699, rfl⟩
abbrev main_v525 : Ref sig .tc := ⟨.hbm, 700, rfl⟩
abbrev main_v526 : Ref sig .tc := ⟨.hbm, 701, rfl⟩
abbrev main_v527 : Ref sig .tc := ⟨.hbm, 702, rfl⟩
abbrev main_v528 : Ref sig .tc := ⟨.hbm, 703, rfl⟩
abbrev main_v529 : Ref sig .tc := ⟨.hbm, 704, rfl⟩
abbrev main_v530 : Ref sig .tc := ⟨.hbm, 705, rfl⟩
abbrev main_v531 : Ref sig .tc := ⟨.hbm, 706, rfl⟩
abbrev main_v532 : Ref sig .tc := ⟨.hbm, 707, rfl⟩
abbrev main_v533 : Ref sig .tc := ⟨.hbm, 708, rfl⟩
abbrev main_v534 : Ref sig .tc := ⟨.hbm, 709, rfl⟩
abbrev main_v535 : Ref sig .tc := ⟨.hbm, 710, rfl⟩
abbrev main_v536 : Ref sig .tc := ⟨.hbm, 711, rfl⟩
abbrev main_v537 : Ref sig .tc := ⟨.hbm, 712, rfl⟩
abbrev main_v538 : Ref sig .tc := ⟨.hbm, 713, rfl⟩
abbrev main_v539 : Ref sig .tc := ⟨.hbm, 714, rfl⟩
abbrev main_v540 : Ref sig .tc := ⟨.hbm, 715, rfl⟩
abbrev main_v541 : Ref sig .tc := ⟨.hbm, 716, rfl⟩
abbrev main_cst_72 : Ref sig .tc := ⟨.hbm, 717, rfl⟩
abbrev main_v542 : Ref sig .tc := ⟨.hbm, 718, rfl⟩
abbrev main_v543 : Ref sig .tc := ⟨.hbm, 719, rfl⟩
abbrev main_cst_73 : Ref sig .tc := ⟨.hbm, 720, rfl⟩
abbrev main_v544 : Ref sig .tc := ⟨.hbm, 721, rfl⟩
abbrev main_v545 : Ref sig .tc := ⟨.hbm, 722, rfl⟩
abbrev main_v546 : Ref sig .tc := ⟨.hbm, 723, rfl⟩
abbrev main_v547 : Ref sig .tc := ⟨.hbm, 724, rfl⟩
abbrev main_v548 : Ref sig .tc := ⟨.hbm, 725, rfl⟩
abbrev main_v549 : Ref sig .tc := ⟨.hbm, 726, rfl⟩
abbrev main_v550 : Ref sig .tc := ⟨.hbm, 727, rfl⟩
abbrev main_v551 : Ref sig .tc := ⟨.hbm, 728, rfl⟩
abbrev main_v552 : Ref sig .tc := ⟨.hbm, 729, rfl⟩
abbrev main_v553 : Ref sig .tc := ⟨.hbm, 730, rfl⟩
abbrev main_v554 : Ref sig .tc := ⟨.hbm, 731, rfl⟩
abbrev main_v555 : Ref sig .tc := ⟨.hbm, 732, rfl⟩
abbrev main_v556 : Ref sig .tc := ⟨.hbm, 733, rfl⟩
abbrev main_v557 : Ref sig .tc := ⟨.hbm, 734, rfl⟩
abbrev main_v558 : Ref sig .tc := ⟨.hbm, 735, rfl⟩
abbrev main_v559 : Ref sig .tc := ⟨.hbm, 736, rfl⟩
abbrev main_c_74 : Ref sig .tc := ⟨.hbm, 737, rfl⟩
abbrev main_v560 : Ref sig .tc := ⟨.hbm, 738, rfl⟩
abbrev main_v561 : Ref sig .tc := ⟨.hbm, 739, rfl⟩
abbrev main_cst_75 : Ref sig .tc := ⟨.hbm, 740, rfl⟩
abbrev main_call14_v0 : Ref sig .tc := ⟨.hbm, 741, rfl⟩
abbrev main_call14_v1 : Ref sig .tc := ⟨.hbm, 742, rfl⟩
abbrev main_v562 : Ref sig .tc := ⟨.hbm, 743, rfl⟩
abbrev main_cst_76 : Ref sig .tc := ⟨.hbm, 744, rfl⟩
abbrev main_v563 : Ref sig .tc := ⟨.hbm, 745, rfl⟩
abbrev main_v564 : Ref sig .tc := ⟨.hbm, 746, rfl⟩
abbrev main_v565 : Ref sig .tc := ⟨.hbm, 747, rfl⟩
abbrev main_v566 : Ref sig .tc := ⟨.hbm, 748, rfl⟩
abbrev main_v567 : Ref sig .tc := ⟨.hbm, 749, rfl⟩
abbrev main_v568 : Ref sig .tc := ⟨.hbm, 750, rfl⟩
abbrev main_v569 : Ref sig .tc := ⟨.hbm, 751, rfl⟩
abbrev main_v570 : Ref sig .tc := ⟨.hbm, 752, rfl⟩
abbrev main_v571 : Ref sig .tc := ⟨.hbm, 753, rfl⟩
abbrev main_v572 : Ref sig .tc := ⟨.hbm, 754, rfl⟩
abbrev main_v573 : Ref sig .tc := ⟨.hbm, 755, rfl⟩
abbrev main_v574 : Ref sig .tc := ⟨.hbm, 756, rfl⟩
abbrev main_v575 : Ref sig .tc := ⟨.hbm, 757, rfl⟩
abbrev main_v576 : Ref sig .tc := ⟨.hbm, 758, rfl⟩
abbrev main_v577 : Ref sig .tc := ⟨.hbm, 759, rfl⟩
abbrev main_v578 : Ref sig .tc := ⟨.hbm, 760, rfl⟩
abbrev main_v579 : Ref sig .tc := ⟨.hbm, 761, rfl⟩
abbrev main_v580 : Ref sig .tc := ⟨.hbm, 762, rfl⟩
abbrev main_v581 : Ref sig .tc := ⟨.hbm, 763, rfl⟩
abbrev main_v582 : Ref sig .tc := ⟨.hbm, 764, rfl⟩
abbrev main_v583 : Ref sig .tc := ⟨.hbm, 765, rfl⟩
abbrev main_v584 : Ref sig .tc := ⟨.hbm, 766, rfl⟩
abbrev main_v585 : Ref sig .tc := ⟨.hbm, 767, rfl⟩
abbrev main_v586 : Ref sig .tc := ⟨.hbm, 768, rfl⟩
abbrev main_v587 : Ref sig .tc := ⟨.hbm, 769, rfl⟩
abbrev main_v588 : Ref sig .tc := ⟨.hbm, 770, rfl⟩
abbrev main_v589 : Ref sig .tc := ⟨.hbm, 771, rfl⟩
abbrev main_v590 : Ref sig .tc := ⟨.hbm, 772, rfl⟩
abbrev main_v591 : Ref sig .tc := ⟨.hbm, 773, rfl⟩
abbrev main_v592 : Ref sig .tc := ⟨.hbm, 774, rfl⟩
abbrev main_v593 : Ref sig .tc := ⟨.hbm, 775, rfl⟩
abbrev main_cst_77 : Ref sig .tc := ⟨.hbm, 776, rfl⟩
abbrev main_v594 : Ref sig .tc := ⟨.hbm, 777, rfl⟩
abbrev main_v595 : Ref sig .tc := ⟨.hbm, 778, rfl⟩
abbrev main_cst_78 : Ref sig .tc := ⟨.hbm, 779, rfl⟩
abbrev main_v596 : Ref sig .tc := ⟨.hbm, 780, rfl⟩
abbrev main_v597 : Ref sig .tc := ⟨.hbm, 781, rfl⟩
abbrev main_v598 : Ref sig .tc := ⟨.hbm, 782, rfl⟩
abbrev main_v599 : Ref sig .tc := ⟨.hbm, 783, rfl⟩
abbrev main_v600 : Ref sig .tc := ⟨.hbm, 784, rfl⟩
abbrev main_v601 : Ref sig .tc := ⟨.hbm, 785, rfl⟩
abbrev main_v602 : Ref sig .tc := ⟨.hbm, 786, rfl⟩
abbrev main_v603 : Ref sig .tc := ⟨.hbm, 787, rfl⟩
abbrev main_v604 : Ref sig .tc := ⟨.hbm, 788, rfl⟩
abbrev main_v605 : Ref sig .tc := ⟨.hbm, 789, rfl⟩
abbrev main_v606 : Ref sig .tc := ⟨.hbm, 790, rfl⟩
abbrev main_v607 : Ref sig .tc := ⟨.hbm, 791, rfl⟩
abbrev main_v608 : Ref sig .tc := ⟨.hbm, 792, rfl⟩
abbrev main_v609 : Ref sig .tc := ⟨.hbm, 793, rfl⟩
abbrev main_v610 : Ref sig .tc := ⟨.hbm, 794, rfl⟩
abbrev main_v611 : Ref sig .tc := ⟨.hbm, 795, rfl⟩
abbrev main_v612 : Ref sig .tc := ⟨.hbm, 796, rfl⟩

abbrev nD : Nat := 1
abbrev τ : Topo := Topo.v7x

variable {F : FTy → Type} [FloatOps F]
-- ==== Proof.KHead.lean ====
/- One attention head of the kernel's block, as the operations the kernel runs, stated once for every head; and that
   each of the four heads the kernel writes out is this one at its own rows. -/
module

public import proofs.«01_k».proof.Proof.Gen.KernelIdeal.Skeleton

@[expose] public section

set_option maxRecDepth 16384

noncomputable section

namespace Cert.Block.K

open Idealize.ShloMosaic Cert.KernelIdeal Cert.KernelIdeal.Gen

variable {F : FTy → Type} [FloatOps F] [Named F]

theorem slices_q {r : Nat} (h : r < 96) : S96x8x256.Slices ![r, 0, 0] S1x8x256 := by
  refine ⟨rfl, fun a => ?_⟩
  match a with
  | ⟨0, _⟩ => show r + 1 ≤ 96; omega
  | ⟨1, _⟩ => show 0 + 8 ≤ 8; omega
  | ⟨2, _⟩ => show 0 + 256 ≤ 256; omega

theorem slices_k {r c : Nat} (h : r + 8 ≤ 96) (hc : c < 8) : S96x8x256.Slices ![r, c, 0] S8x1x256 := by
  refine ⟨rfl, fun a => ?_⟩
  match a with
  | ⟨0, _⟩ => show r + 8 ≤ 96; omega
  | ⟨1, _⟩ => show c + 1 ≤ 8; omega
  | ⟨2, _⟩ => show 0 + 256 ≤ 256; omega

theorem slices_w {c : Nat} (hc : c < 8) : S8x8x256.Slices ![0, c, 0] S8x1x256 := by
  refine ⟨rfl, fun a => ?_⟩
  match a with
  | ⟨0, _⟩ => show 0 + 8 ≤ 8; omega
  | ⟨1, _⟩ => show c + 1 ≤ 8; omega
  | ⟨2, _⟩ => show 0 + 256 ≤ 256; omega

/-- Row `r` of the projections (a query channel), repeated along the key axis. -/
def rowQ (R : FVec F S96x8x256 .f32) (r : Nat) (h : r < 96) : FVec F S8x8x256 .f32 :=
  broadcastTo S8x8x256 (shapeCast S8x1x256 (shapeCast S8x256 (extractStridedSlice S1x8x256 ![r, 0, 0] R (slices_q h))
    shapeCasts_S1x8x256_S8x256) shapeCasts_S8x256_S8x1x256) broadcasts_S8x1x256_S8x8x256

/-- The eight rows from `r` on at token `c`, repeated along the query axis. -/
def rowK (R : FVec F S96x8x256 .f32) (r c : Nat) (h : r + 8 ≤ 96) (hc : c < 8) : FVec F S8x8x256 .f32 :=
  broadcastTo S8x8x256 (shapeCast S1x8x256 (shapeCast S8x256 (extractStridedSlice S8x1x256 ![r, c, 0] R (slices_k h hc))
    shapeCasts_S8x1x256_S8x256) shapeCasts_S8x256_S1x8x256) broadcasts_S1x8x256_S8x8x256

/-- The eight value rows from `r` on at token `c`, repeated along the token axis. -/
def rowV (R : FVec F S96x8x256 .f32) (r c : Nat) (h : r + 8 ≤ 96) (hc : c < 8) : FVec F S8x8x256 .f32 :=
  broadcastTo S8x8x256 (shapeCast S8x1x256 (shapeCast S8x256 (extractStridedSlice S8x1x256 ![r, c, 0] R (slices_k h hc))
    shapeCasts_S8x1x256_S8x256) shapeCasts_S8x256_S8x1x256) broadcasts_S8x1x256_S8x8x256

/-- Column `c` of the attention weights, repeated along the channel axis. -/
def colW (W : FVec F S8x8x256 .f32) (c : Nat) (hc : c < 8) : FVec F S8x8x256 .f32 :=
  broadcastTo S8x8x256 (shapeCast S1x8x256 (shapeCast S8x256 (extractStridedSlice S8x1x256 ![0, c, 0] W (slices_w hc))
    shapeCasts_S8x1x256_S8x256) shapeCasts_S8x256_S1x8x256) broadcasts_S1x8x256_S8x8x256

/-- One of the eight products of a score. -/
def qk (R : FVec F S96x8x256 .f32) (h : Nat) (hh : h < 4) (c : Nat) (hc : c < 8) : FVec F S8x8x256 .f32 :=
  mulf (rowQ R (8 * h + c) (by omega)) (rowK R (32 + 8 * h) c (by omega) hc)

/-- One of the eight products of a head's output. -/
def pv (R : FVec F S96x8x256 .f32) (W : FVec F S8x8x256 .f32) (h : Nat) (hh : h < 4) (c : Nat) (hc : c < 8) :
    FVec F S8x8x256 .f32 :=
  mulf (rowV R (64 + 8 * h) c (by omega) hc) (colW W c hc)

/-- The first six products of a score added up, then the seventh and the eighth. -/
def score6 (R : FVec F S96x8x256 .f32) (h : Nat) (hh : h < 4) : FVec F S8x8x256 .f32 :=
  addf (addf (addf (addf (addf (qk R h hh 0 (by decide)) (qk R h hh 1 (by decide))) (qk R h hh 2 (by decide)))
    (qk R h hh 3 (by decide))) (qk R h hh 4 (by decide))) (qk R h hh 5 (by decide))

/-- The scores before scaling. -/
def score (R : FVec F S96x8x256 .f32) (h : Nat) (hh : h < 4) : FVec F S8x8x256 .f32 :=
  addf (addf (score6 R h hh) (qk R h hh 6 (by decide))) (qk R h hh 7 (by decide))

/-- The scaled scores, at the mask constant where the mask is set. -/
def masked (M : IVec S8x8x1 1) (S : FVec F S8x8x256 .f32) : FVec F S8x8x256 .f32 :=
  select (broadcastTo S8x8x256 (shapeCast S8x8x1 M shapeCasts_S8x8x1_S8x8x1) broadcasts_S8x8x1_S8x8x256)
    (broadcast S8x8x256 (Named.named κ "mask" 0xFF61B1E6#32))
    (mulf S (broadcast S8x8x256 (Scalar.ofBits .f32 0x3EB504F3#32)))

/-- The exponentials of the scores less their greatest. -/
def expd (E : FVec F S8x8x256 .f32) : FVec F S8x8x256 .f32 :=
  exp (subf E (broadcastTo S8x8x256 (shapeCast S8x1x256
    (multiReduction .maximumf [1] S8x256 E 0xFF800000#32 reduces_S8x8x256_S8x256 (.inl rfl) rfl)
    shapeCasts_S8x256_S8x1x256) broadcasts_S8x1x256_S8x8x256))

/-- An array divided by its sums along the key axis. -/
def normd (E : FVec F S8x8x256 .f32) : FVec F S8x8x256 .f32 :=
  divf E (broadcastTo S8x8x256 (shapeCast S8x1x256
    (multiReduction .add [1] S8x256 E 0x00000000#32 reduces_S8x8x256_S8x256 (.inl rfl) rfl)
    shapeCasts_S8x256_S8x1x256) broadcasts_S8x1x256_S8x8x256)

/-- The attention weights of a head. -/
def weights (R : FVec F S96x8x256 .f32) (M : IVec S8x8x1 1) (h : Nat) (hh : h < 4) : FVec F S8x8x256 .f32 :=
  normd (expd (masked M (score R h hh)))

/-- A head's output from its weights. -/
def headOf (R : FVec F S96x8x256 .f32) (W : FVec F S8x8x256 .f32) (h : Nat) (hh : h < 4) : FVec F S8x2048 .f32 :=
  shapeCast S8x2048 (addf (addf (addf (addf (addf (addf (addf (pv R W h hh 0 (by decide)) (pv R W h hh 1 (by decide)))
    (pv R W h hh 2 (by decide))) (pv R W h hh 3 (by decide))) (pv R W h hh 4 (by decide))) (pv R W h hh 5 (by decide)))
    (pv R W h hh 6 (by decide))) (pv R W h hh 7 (by decide))) shapeCasts_S8x8x256_S8x2048

/-- A head's output. -/
def head (R : FVec F S96x8x256 .f32) (M : IVec S8x8x1 1) (h : Nat) (hh : h < 4) : FVec F S8x2048 .f32 :=
  headOf R (weights R M h hh) h hh

/-- The four heads one under the other, projected, with the block's input added. -/
def attn (X : FVec F S32x2048 .f32) (R : FVec F S96x8x256 .f32) (M : IVec S8x8x1 1) (P : Vec F S32x32 .f32)
    (pb : Vec F S32x1 .f32) : FVec F S32x2048 .f32 :=
  addf X (addf (matmul dot_S32x32_S32x2048_S32x2048_1_0_0_1_n_n none (shapeCast S32x32 P shapeCasts_S32x32_S32x32)
    (concatenate S32x2048 0 [⟨S8x2048, head R M 0 (by decide)⟩, ⟨S8x2048, head R M 1 (by decide)⟩,
      ⟨S8x2048, head R M 2 (by decide)⟩, ⟨S8x2048, head R M 3 (by decide)⟩]
      concatenates_S8x2048_S8x2048_S8x2048_S8x2048_S32x2048_d0) (constant S32x2048 .f32 0x00000000#32))
    (broadcastTo S32x2048 (shapeCast S32x1 pb shapeCasts_S32x1_S32x1) broadcasts_S32x1_S32x2048))

end Cert.Block.K
-- ==== Proof.KOps.lean ====
/- The kernel's body as a function of its windows, with the head and the expert stated once; and that what the body
   stores is this function. -/
module

public import proofs.«01_k».proof.Proof.KHead
public import proofs.«01_k».proof.Proof.Gen.KernelIdeal.Frame

@[expose] public section

set_option maxRecDepth 16384

noncomputable section

namespace Cert.Block.K

open Idealize.ShloMosaic Cert.KernelIdeal Cert.KernelIdeal.Gen

variable {F : FTy → Type} [FloatOps F] [Named F]

/-- The mean of the channels of each lane. -/
def lnMean (v : FVec F S32x2048 .f32) : FVec F S32x2048 .f32 :=
  broadcastTo S32x2048 (divf (shapeCast S1x2048
    (multiReduction .add [0] S2048 v 0x00000000#32 reduces_S32x2048_S2048 (.inl rfl) rfl) shapeCasts_S2048_S1x2048)
    (broadcast S1x2048 (Scalar.ofBits .f32 0x42000000#32))) broadcasts_S1x2048_S32x2048

/-- The reciprocal root of the variance of centred channels. -/
def lnScale (c : FVec F S32x2048 .f32) : FVec F S32x2048 .f32 :=
  broadcastTo S32x2048 (rsqrt (addf (mulf (shapeCast S1x2048
    (multiReduction .add [0] S2048 (mulf c c) 0x00000000#32 reduces_S32x2048_S2048 (.inl rfl) rfl) shapeCasts_S2048_S1x2048)
    (broadcast S1x2048 (Named.named κ "inv31" 0x3D042108#32)))
    (broadcast S1x2048 (Scalar.ofBits .f32 0x3727C5AC#32)))) broadcasts_S1x2048_S32x2048

/-- The normalization of each lane's channels. -/
def lnK (v : FVec F S32x2048 .f32) (g b : Vec F S32x1 .f32) : FVec F S32x2048 .f32 :=
  addf (mulf (mulf (subf v (lnMean v)) (lnScale (subf v (lnMean v))))
    (broadcastTo S32x2048 (shapeCast S32x1 g shapeCasts_S32x1_S32x1) broadcasts_S32x1_S32x2048))
    (broadcastTo S32x2048 (shapeCast S32x1 b shapeCasts_S32x1_S32x1) broadcasts_S32x1_S32x2048)

/-- The queries, keys and values of every head. -/
def proj (v : FVec F S32x2048 .f32) (w : Vec F S96x32 .f32) : FVec F S96x8x256 .f32 :=
  shapeCast S96x8x256 (matmul dot_S96x32_S32x2048_S96x2048_1_0_0_1_n_n none (shapeCast S96x32 w shapeCasts_S96x32_S96x32) v
    (constant S96x2048 .f32 0x00000000#32)) shapeCasts_S96x2048_S96x8x256

/-- The router's logits. -/
def logits (v : FVec F S32x2048 .f32) (w : Vec F S8x32 .f32) (b : Vec F S8x1 .f32) : FVec F S8x2048 .f32 :=
  addf (matmul dot_S8x32_S32x2048_S8x2048_1_0_0_1_n_n none (shapeCast S8x32 w shapeCasts_S8x32_S8x32) v
    (constant S8x2048 .f32 0x00000000#32))
    (broadcastTo S8x2048 (shapeCast S8x1 b shapeCasts_S8x1_S8x1) broadcasts_S8x1_S8x2048)

/-- The greatest logit of each lane. -/
def best (L : FVec F S8x2048 .f32) : FVec F S1x2048 .f32 :=
  shapeCast S1x2048 (multiReduction .maximumf [0] S2048 L 0xFF800000#32 reduces_S8x2048_S2048 (.inl rfl) rfl)
    shapeCasts_S2048_S1x2048

/-- The experts' numbers. -/
def num : IVec S8x2048 32 := iota .tc S8x2048 32 [0] iota_S8x2048_d0_w32

/-- The first expert holding the greatest logit of each lane. -/
def pick (L : FVec F S8x2048 .f32) : IVec S1x2048 32 :=
  shapeCast S1x2048 (multiReductionI .minsi [0] S2048
    (select (cmpf .oeq L (broadcastTo S8x2048 (best L) broadcasts_S1x2048_S8x2048)) num (broadcast S8x2048 8#32))
    2147483647#32 reduces_S8x2048_S2048 rfl) shapeCasts_S2048_S1x2048

/-- The logits with the picked expert's masked off. -/
def rest (L : FVec F S8x2048 .f32) (a : IVec S1x2048 32) : FVec F S8x2048 .f32 :=
  select (cmpi .eq num (broadcastTo S8x2048 a broadcasts_S1x2048_S8x2048))
    (broadcast S8x2048 (Named.named κ "mask" 0xFF61B1E6#32)) L

/-- The exponentials of a row of lanes, the greatest over the tokens taken off. -/
def tokExp (m : FVec F S8x256 .f32) : FVec F S8x256 .f32 :=
  exp (subf m (broadcastTo S8x256 (shapeCast S1x256
    (multiReduction .maximumf [0] S256 m 0xFF800000#32 reduces_S8x256_S256 (.inl rfl) rfl) shapeCasts_S256_S1x256)
    broadcasts_S1x256_S8x256))

/-- Lanes divided by their sums over the tokens. -/
def tokNorm (m : FVec F S8x256 .f32) : FVec F S8x256 .f32 :=
  divf m (broadcastTo S8x256 (shapeCast S1x256
    (multiReduction .add [0] S256 m 0x00000000#32 reduces_S8x256_S256 (.inl rfl) rfl) shapeCasts_S256_S1x256)
    broadcasts_S1x256_S8x256)

/-- The softmax of a row of lanes over the tokens. -/
def tokSoft (m : FVec F S1x2048 .f32) : FVec F S1x2048 .f32 :=
  shapeCast S1x2048 (tokNorm (tokExp (shapeCast S8x256 m shapeCasts_S1x2048_S8x256))) shapeCasts_S8x256_S1x2048

/-- `s` on the lanes that picked expert `e`, zero on the others. -/
def onlyIf (a : IVec S1x2048 32) (s : FVec F S1x2048 .f32) (e : BitVec 32) : FVec F S1x2048 .f32 :=
  select (cmpi .eq a (broadcast S1x2048 e)) s (broadcast S1x2048 (Scalar.ofBits .f32 0x00000000#32))

/-- The weight of expert `e` on each lane. -/
def wtE (L : FVec F S8x2048 .f32) (e : BitVec 32) : FVec F S1x2048 .f32 :=
  addf (onlyIf (pick L) (tokSoft (best L)) e)
    (onlyIf (pick (rest L (pick L))) (tokSoft (best (rest L (pick L)))) e)

/-- An expert's hidden layer. -/
def hidK (v : FVec F S32x2048 .bf16) (w1 : Vec F S1x128x32 .bf16) (b1 : Vec F S1x128x1 .f32) : FVec F S128x2048 .f32 :=
  addf (matmul dot_S128x32_S32x2048_S128x2048_1_0_0_1_n_n none (shapeCast S128x32 w1 shapeCasts_S1x128x32_S128x32) v
    (constant S128x2048 .f32 0x00000000#32))
    (broadcastTo S128x2048 (shapeCast S128x1 b1 shapeCasts_S1x128x1_S128x1) broadcasts_S128x1_S128x2048)

/-- An expert's gate argument above its linear unit. -/
def pairK (h : FVec F S128x2048 .f32) (sw : Vec F S1x256x128 .bf16) (sb : Vec F S1x256x1 .f32) : FVec F S256x2048 .f32 :=
  addf (matmul dot_S256x128_S128x2048_S256x2048_1_0_0_1_n_n none (shapeCast S256x128 sw shapeCasts_S1x256x128_S256x128)
    (truncf .bf16 h bitsLt_bf16_f32) (constant S256x2048 .f32 0x00000000#32))
    (broadcastTo S256x2048 (shapeCast S256x1 sb shapeCasts_S1x256x1_S256x1) broadcasts_S256x1_S256x2048)

/-- The gate argument. -/
def loK (p : FVec F S256x2048 .f32) : FVec F S128x2048 .f32 :=
  extractStridedSlice S128x2048 ![0, 0] p slices_S256x2048_o0_0_S128x2048

/-- The linear unit. -/
def hiK (p : FVec F S256x2048 .f32) : FVec F S128x2048 .f32 :=
  extractStridedSlice S128x2048 ![128, 0] p slices_S256x2048_o128_0_S128x2048

/-- An expert's gated layer. -/
def gatedK (p : FVec F S256x2048 .f32) (be : Vec F S1x1x1 .f32) : FVec F S128x2048 .f32 :=
  mulf (mulf (loK p) (logistic (mulf (broadcastTo S128x2048 (shapeCast S1x1 be shapeCasts_S1x1x1_S1x1)
    broadcasts_S1x1_S128x2048) (loK p)))) (hiK p)

/-- An expert's last layer on its weighted gated layer. -/
def lastK (g : FVec F S128x2048 .f32) (w : FVec F S1x2048 .f32) (w2 : Vec F S1x32x128 .bf16) : FVec F S32x2048 .f32 :=
  matmul dot_S32x128_S128x2048_S32x2048_1_0_0_1_n_n none (shapeCast S32x128 w2 shapeCasts_S1x32x128_S32x128)
    (truncf .bf16 (mulf g (broadcastTo S128x2048 w broadcasts_S1x2048_S128x2048)) bitsLt_bf16_f32)
    (constant S32x2048 .f32 0x00000000#32)

/-- An expert's weighted output without its last bias. -/
def moe (v : FVec F S32x2048 .bf16) (w : FVec F S1x2048 .f32) (w1 : Vec F S1x128x32 .bf16) (b1 : Vec F S1x128x1 .f32)
    (sw : Vec F S1x256x128 .bf16) (sb : Vec F S1x256x1 .f32) (be : Vec F S1x1x1 .f32) (w2 : Vec F S1x32x128 .bf16) :
    FVec F S32x2048 .f32 :=
  lastK (gatedK (pairK (hidK v w1 b1) sw sb) be) w w2

theorem inbE {a b e : Nat} (he : e < 8) : ∀ k, (![e, 0, 0] : Fin 3 → Nat) k + (⟨3, ![1, a, b]⟩ : Shape).size k
    ≤ (⟨3, ![8, a, b]⟩ : Shape).size k := by
  intro k
  match k with
  | ⟨0, _⟩ => show e + 1 ≤ 8; omega
  | ⟨1, _⟩ => show 0 + a ≤ a; omega
  | ⟨2, _⟩ => show 0 + b ≤ b; omega

/-- Row `e` of a table of eight, the rows arrays. -/
def rowE {a b : Nat} {ty : EltTy} (x : Vec F ⟨3, ![8, a, b]⟩ ty) (e : Nat) (he : e < 8) : Vec F ⟨3, ![1, a, b]⟩ ty :=
  View.ld x (Rect.unit (s := ⟨3, ![8, a, b]⟩) ![e, 0, 0] (⟨3, ![1, a, b]⟩ : Shape).size (inbE he))

/-- Expert `e`'s weighted output from the tables of the experts' weights. -/
def moeE (v : FVec F S32x2048 .bf16) (L : FVec F S8x2048 .f32) (x10 : Vec F S8x128x32 .bf16) (x11 : Vec F S8x128x1 .f32)
    (x12 : Vec F S8x256x128 .bf16) (x13 : Vec F S8x256x1 .f32) (x14 : Vec F S8x1x1 .f32) (x15 : Vec F S8x32x128 .bf16)
    (e : Nat) (he : e < 8) : FVec F S32x2048 .f32 :=
  moe v (wtE L (BitVec.ofNat 32 e)) (rowE x10 e he) (rowE x11 e he) (rowE x12 e he) (rowE x13 e he) (rowE x14 e he)
    (rowE x15 e he)

/-- The weighted last biases. -/
def biases (L : FVec F S8x2048 .f32) (w : Vec F S32x8 .f32) : FVec F S32x2048 .f32 :=
  matmul dot_S32x8_S8x2048_S32x2048_1_0_0_1_n_n none (shapeCast S32x8 w shapeCasts_S32x8_S32x8)
    (concatenate S8x2048 0 [⟨S1x2048, wtE L 0#32⟩, ⟨S1x2048, wtE L 1#32⟩, ⟨S1x2048, wtE L 2#32⟩, ⟨S1x2048, wtE L 3#32⟩,
      ⟨S1x2048, wtE L 4#32⟩, ⟨S1x2048, wtE L 5#32⟩, ⟨S1x2048, wtE L 6#32⟩, ⟨S1x2048, wtE L 7#32⟩]
      concatenates_S1x2048_S1x2048_S1x2048_S1x2048_S1x2048_S1x2048_S1x2048_S1x2048_S8x2048_d0)
    (constant S32x2048 .f32 0x00000000#32)

/-- The eight experts' outputs added up, and the biases. -/
def mix (v : FVec F S32x2048 .bf16) (L : FVec F S8x2048 .f32) (x10 : Vec F S8x128x32 .bf16) (x11 : Vec F S8x128x1 .f32)
    (x12 : Vec F S8x256x128 .bf16) (x13 : Vec F S8x256x1 .f32) (x14 : Vec F S8x1x1 .f32) (x15 : Vec F S8x32x128 .bf16)
    (x16 : Vec F S32x8 .f32) : FVec F S32x2048 .f32 :=
  addf (addf (addf (addf (addf (addf (addf (addf (addf (broadcast S32x2048 (Scalar.ofBits .f32 0x00000000#32))
    (moeE v L x10 x11 x12 x13 x14 x15 0 (by decide))) (moeE v L x10 x11 x12 x13 x14 x15 1 (by decide)))
    (moeE v L x10 x11 x12 x13 x14 x15 2 (by decide))) (moeE v L x10 x11 x12 x13 x14 x15 3 (by decide)))
    (moeE v L x10 x11 x12 x13 x14 x15 4 (by decide))) (moeE v L x10 x11 x12 x13 x14 x15 5 (by decide)))
    (moeE v L x10 x11 x12 x13 x14 x15 6 (by decide))) (moeE v L x10 x11 x12 x13 x14 x15 7 (by decide)))
    (biases L x16)

/-- The input block as lanes. -/
def lanes (x0 : Vec F S1x32x8x256 .f32) : FVec F S32x2048 .f32 :=
  shapeCast S32x2048 (shapeCast S32x8x256 x0 shapeCasts_S1x32x8x256_S32x8x256) shapeCasts_S32x8x256_S32x2048

/-- The lanes after attention. -/
def xaK (x0 : Vec F S1x32x8x256 .f32) (x1 x2 : Vec F S32x1 .f32) (x5 : Vec F S96x32 .f32) (x6 : Vec F S32x32 .f32)
    (x7 : Vec F S32x1 .f32) : FVec F S32x2048 .f32 :=
  attn (lanes x0) (proj (lnK (lanes x0) x1 x2) x5) k0_pay4 x6 x7

/-- The block from the lanes after attention. -/
def blockK (xa : FVec F S32x2048 .f32) (x3 x4 : Vec F S32x1 .f32) (x8 : Vec F S8x32 .f32) (x9 : Vec F S8x1 .f32)
    (x10 : Vec F S8x128x32 .bf16) (x11 : Vec F S8x128x1 .f32)
    (x12 : Vec F S8x256x128 .bf16) (x13 : Vec F S8x256x1 .f32) (x14 : Vec F S8x1x1 .f32) (x15 : Vec F S8x32x128 .bf16)
    (x16 : Vec F S32x8 .f32) : FVec F S1x32x8x256 .f32 :=
  shapeCast S1x32x8x256 (shapeCast S32x8x256 (addf xa (mix (truncf .bf16 (lnK xa x3 x4) bitsLt_bf16_f32)
    (logits (lnK xa x3 x4) x8 x9) x10 x11 x12 x13 x14 x15 x16)) shapeCasts_S32x2048_S32x8x256)
    shapeCasts_S32x8x256_S1x32x8x256

section Stored
variable (x0 : Vec F S1x32x8x256 .f32) (x1 : Vec F S32x1 .f32) (x2 : Vec F S32x1 .f32) (x3 : Vec F S32x1 .f32)
  (x4 : Vec F S32x1 .f32) (x5 : Vec F S96x32 .f32) (x6 : Vec F S32x32 .f32) (x7 : Vec F S32x1 .f32)
  (x8 : Vec F S8x32 .f32) (x9 : Vec F S8x1 .f32) (x10 : Vec F S8x128x32 .bf16) (x11 : Vec F S8x128x1 .f32)
  (x12 : Vec F S8x256x128 .bf16) (x13 : Vec F S8x256x1 .f32) (x14 : Vec F S8x1x1 .f32)
  (x15 : Vec F S8x32x128 .bf16) (x16 : Vec F S32x8 .f32)

theorem pay85_eq : k0_pay85 x0 x1 x2 x3 x4 x5 x6 x7 x8 x9 x10 x11 x12 x13 x14 x15 x16
    = proj (lnK (lanes (View.ld x0 r0_0)) (View.ld x1 r0_1) (View.ld x2 r0_1)) (View.ld x5 r0_2) := rfl

theorem pay97_eq : k0_pay97 x0 x1 x2 x3 x4 x5 x6 x7 x8 x9 x10 x11 x12 x13 x14 x15 x16
    = xaK (View.ld x0 r0_0) (View.ld x1 r0_1) (View.ld x2 r0_1) (View.ld x5 r0_2) (View.ld x6 r0_3) (View.ld x7 r0_1) :=
  rfl

theorem out_eq : out0_17 x0 x1 x2 x3 x4 x5 x6 x7 x8 x9 x10 x11 x12 x13 x14 x15 x16
    = View.canon [⟨r0_0, blockK (xaK (View.ld x0 r0_0) (View.ld x1 r0_1) (View.ld x2 r0_1) (View.ld x5 r0_2)
        (View.ld x6 r0_3) (View.ld x7 r0_1)) (View.ld x3 r0_1) (View.ld x4 r0_1) (View.ld x8 r0_4) (View.ld x9 r0_5)
        x10 x11 x12 x13 x14 x15 (View.ld x16 r0_54)⟩] := rfl

end Stored

end Cert.Block.K
-- ==== Proof.Model.lean ====
/- The block over the reals: what one row of the batch (eight tokens of thirty-two channels) becomes. -/
module

public import Mathlib.Analysis.SpecialFunctions.Exp
public import Mathlib.Analysis.SpecialFunctions.Pow.Real
public import Mathlib.Algebra.BigOperators.Fin

@[expose] public section

noncomputable section

namespace Cert.Block

/-- The factor on the attention scores: the printed constant `0x3EB504F3`. -/
def scale : ℝ := 11863283 / 33554432

/-- The term under the root of the normalization: the printed constant `0x3727C5AC`. -/
def eps : ℝ := 10995116 / 1099511627776

theorem eps_pos : 0 < eps := by unfold eps; norm_num

/-- The weights of the block, as reals. -/
structure Wts where
  g1 : Fin 32 → ℝ
  b1 : Fin 32 → ℝ
  g2 : Fin 32 → ℝ
  b2 : Fin 32 → ℝ
  kw : Fin 4 → Fin 32 → Fin 8 → ℝ
  qw : Fin 4 → Fin 2 → Fin 32 → Fin 8 → ℝ
  vw : Fin 4 → Fin 32 → Fin 8 → ℝ
  pw : Fin 32 → Fin 32 → ℝ
  pb : Fin 32 → ℝ
  rw : Fin 32 → Fin 8 → ℝ
  rb : Fin 8 → ℝ
  ew1 : Fin 8 → Fin 32 → Fin 128 → ℝ
  eb1 : Fin 8 → Fin 128 → ℝ
  esw : Fin 8 → Fin 128 → Fin 128 → ℝ
  esb : Fin 8 → Fin 128 → ℝ
  ebeta : Fin 8 → ℝ
  egw : Fin 8 → Fin 128 → Fin 128 → ℝ
  egb : Fin 8 → Fin 128 → ℝ
  ew2 : Fin 8 → Fin 128 → Fin 32 → ℝ
  eb2 : Fin 8 → Fin 32 → ℝ

/-- The mean of the thirty-two channels. -/
def mean (v : Fin 32 → ℝ) : ℝ := (∑ d, v d) / 32

/-- The unbiased variance of the thirty-two channels. -/
def var (v : Fin 32 → ℝ) : ℝ := (∑ d, (v d - mean v) * (v d - mean v)) / 31

theorem var_nonneg (v : Fin 32 → ℝ) : 0 ≤ var v :=
  div_nonneg (Finset.sum_nonneg fun _ _ => mul_self_nonneg _) (by norm_num)

theorem var_eps_pos (v : Fin 32 → ℝ) : 0 < var v + eps := add_pos_of_nonneg_of_pos (var_nonneg v) eps_pos

/-- The normalization of the channels. -/
def ln (g b : Fin 32 → ℝ) (v : Fin 32 → ℝ) (d : Fin 32) : ℝ := (v d - mean v) / Real.sqrt (var v + eps) * g d + b d

/-- The softmax of `S` over the positions not in `M`, `0` on those in it. -/
def soft {n : Nat} (M : Fin n → Prop) [DecidablePred M] (S : Fin n → ℝ) (j : Fin n) : ℝ :=
  (if M j then 0 else Real.exp (S j)) / ∑ k, if M k then 0 else Real.exp (S k)

variable (W : Wts)

/-- The first normalization of the row. -/
def t1 (X : Fin 8 → Fin 32 → ℝ) (i : Fin 8) (d : Fin 32) : ℝ := ln W.g1 W.b1 (X i) d

/-- The keys of head `h`. -/
def key (X : Fin 8 → Fin 32 → ℝ) (h : Fin 4) (i c : Fin 8) : ℝ := ∑ d, t1 W X i d * W.kw h d c

/-- The values of head `h`. -/
def val (X : Fin 8 → Fin 32 → ℝ) (h : Fin 4) (i c : Fin 8) : ℝ := ∑ d, t1 W X i d * W.vw h d c

/-- The queries of head `h`, the two of its group added up. -/
def qry (X : Fin 8 → Fin 32 → ℝ) (h : Fin 4) (i c : Fin 8) : ℝ := ∑ d, t1 W X i d * (W.qw h 0 d c + W.qw h 1 d c)

/-- The scores of a head from its queries and keys: the keys enter untransposed. -/
def score (q k : Fin 8 → Fin 8 → ℝ) (i j : Fin 8) : ℝ := (∑ c, q i c * k c j) * scale

/-- A head's output from its queries, keys and values: the tokens three or more before a token are masked off. -/
def headOut (q k v : Fin 8 → Fin 8 → ℝ) (i c : Fin 8) : ℝ :=
  ∑ j, soft (fun j : Fin 8 => j.val + 3 ≤ i.val) (score q k i) j * v j c

/-- The output of head `h`. -/
def head (X : Fin 8 → Fin 32 → ℝ) (h : Fin 4) (i c : Fin 8) : ℝ := headOut (qry W X h) (key W X h) (val W X h) i c

/-- The heads side by side. -/
def cat (X : Fin 8 → Fin 32 → ℝ) (i : Fin 8) (d : Fin 32) : ℝ :=
  head W X ⟨d.val / 8, by omega⟩ i ⟨d.val % 8, by omega⟩

/-- The row after attention. -/
def xa (X : Fin 8 → Fin 32 → ℝ) (i : Fin 8) (d : Fin 32) : ℝ := X i d + (∑ c, cat W X i c * W.pw c d + W.pb d)

/-- The second normalization. -/
def t2 (X : Fin 8 → Fin 32 → ℝ) (i : Fin 8) (d : Fin 32) : ℝ := ln W.g2 W.b2 (xa W X i) d

/-- The router's logits of a token. -/
def logit (X : Fin 8 → Fin 32 → ℝ) (i e : Fin 8) : ℝ := ∑ d, t2 W X i d * W.rw d e + W.rb e

/-- `a` is the first of the greatest entries of `L` among the positions in `D`. -/
def IsTop (L : Fin 8 → ℝ) (D : Fin 8 → Prop) (a : Fin 8) : Prop :=
  D a ∧ ∀ e, D e → L e ≤ L a ∧ (L e = L a → a ≤ e)

theorem IsTop.unique {L : Fin 8 → ℝ} {D : Fin 8 → Prop} {a b : Fin 8} (ha : IsTop L D a) (hb : IsTop L D b) : a = b := by
  have h1 := ha.2 b hb.1
  have h2 := hb.2 a ha.1
  have he : L a = L b := le_antisymm h2.1 h1.1
  exact le_antisymm (h1.2 he.symm) (h2.2 he)

theorem exists_isTop (L : Fin 8 → ℝ) (D : Fin 8 → Prop) (hD : ∃ a, D a) : ∃ a, IsTop L D a := by
  classical
  obtain ⟨a0, h0⟩ := hD
  obtain ⟨m, hm, hmax⟩ := Finset.exists_max_image (Finset.univ.filter D) L ⟨a0, by simp [h0]⟩
  obtain ⟨a, ha, hmin⟩ := Finset.exists_min_image (Finset.univ.filter fun e => D e ∧ L e = L m) id
    ⟨m, by simpa using hm⟩
  simp only [Finset.mem_filter, Finset.mem_univ, true_and, id] at hm hmax ha hmin
  exact ⟨a, ha.1, fun e he => ⟨ha.2 ▸ hmax e he, fun h => hmin e ⟨he, h.trans ha.2⟩⟩⟩

/-- The expert a token ranks first. -/
def top1 (L : Fin 8 → ℝ) : Fin 8 := Classical.choose (exists_isTop L (fun _ => True) ⟨0, trivial⟩)

theorem top1_spec (L : Fin 8 → ℝ) : IsTop L (fun _ => True) (top1 L) :=
  Classical.choose_spec (exists_isTop L (fun _ => True) ⟨0, trivial⟩)

theorem exists_ne_top1 (L : Fin 8 → ℝ) : ∃ a : Fin 8, a ≠ top1 L := exists_ne (top1 L)

/-- The expert a token ranks second. -/
def top2 (L : Fin 8 → ℝ) : Fin 8 := Classical.choose (exists_isTop L (fun e => e ≠ top1 L) (exists_ne_top1 L))

theorem top2_spec (L : Fin 8 → ℝ) : IsTop L (fun e => e ≠ top1 L) (top2 L) :=
  Classical.choose_spec (exists_isTop L (fun e => e ≠ top1 L) (exists_ne_top1 L))

/-- The weight of the expert ranked first, softened over the tokens. -/
def s1 (L : Fin 8 → Fin 8 → ℝ) (i : Fin 8) : ℝ := soft (fun _ => False) (fun i => L i (top1 (L i))) i

/-- The weight of the expert ranked second, softened over the tokens. -/
def s2 (L : Fin 8 → Fin 8 → ℝ) (i : Fin 8) : ℝ := soft (fun _ => False) (fun i => L i (top2 (L i))) i

/-- The weight of expert `e` at token `i`. -/
def wt (L : Fin 8 → Fin 8 → ℝ) (i e : Fin 8) : ℝ :=
  (if top1 (L i) = e then s1 L i else 0) + (if top2 (L i) = e then s2 L i else 0)

/-- The hidden layer of expert `e`. -/
def hid (e : Fin 8) (v : Fin 32 → ℝ) (k : Fin 128) : ℝ := ∑ d, v d * W.ew1 e d k + W.eb1 e k

/-- The gate's argument of expert `e`. -/
def sx (e : Fin 8) (v : Fin 32 → ℝ) (m : Fin 128) : ℝ := ∑ k, hid W e v k * W.esw e k m + W.esb e m

/-- The linear unit of expert `e`. -/
def gl (e : Fin 8) (v : Fin 32 → ℝ) (m : Fin 128) : ℝ := ∑ k, hid W e v k * W.egw e k m + W.egb e m

/-- The gated layer of expert `e`. -/
def gated (e : Fin 8) (v : Fin 32 → ℝ) (m : Fin 128) : ℝ :=
  sx W e v m * (1 / (1 + Real.exp (-(W.ebeta e * sx W e v m)))) * gl W e v m

/-- The output of expert `e`. -/
def expert (e : Fin 8) (v : Fin 32 → ℝ) (d : Fin 32) : ℝ := ∑ m, gated W e v m * W.ew2 e m d + W.eb2 e d

/-- The block's output. -/
def out (X : Fin 8 → Fin 32 → ℝ) (i : Fin 8) (d : Fin 32) : ℝ :=
  xa W X i d + ∑ e, wt (logit W X) i e * expert W e (t2 W X i) d

/-- The output with each weight applied before an expert's last layer, and the last biases weighted apart. -/
theorem out_eq (X : Fin 8 → Fin 32 → ℝ) (i : Fin 8) (d : Fin 32) :
    out W X i d = xa W X i d + (∑ e, (∑ m, W.ew2 e m d * (gated W e (t2 W X i) m * wt (logit W X) i e))
      + ∑ e, W.eb2 e d * wt (logit W X) i e) := by
  unfold out expert
  rw [← Finset.sum_add_distrib]
  congr 1
  refine Finset.sum_congr rfl fun e _ => ?_
  rw [mul_add, Finset.mul_sum]
  congr 1
  · exact Finset.sum_congr rfl fun m _ => by ring
  · ring

/-- The score of a head with the two query groups taken apart. -/
theorem score_split (X : Fin 8 → Fin 32 → ℝ) (h : Fin 4) (i j : Fin 8) :
    score (qry W X h) (key W X h) i j
      = (∑ c, (∑ d, t1 W X i d * W.qw h 0 d c) * key W X h c j + ∑ c, (∑ d, t1 W X i d * W.qw h 1 d c) * key W X h c j)
        * scale := by
  unfold score
  rw [← Finset.sum_add_distrib]
  congr 1
  refine Finset.sum_congr rfl fun c _ => ?_
  rw [← add_mul, ← Finset.sum_add_distrib]
  congr 1
  exact Finset.sum_congr rfl fun d _ => by ring

end Cert.Block
-- ==== Proof.Arith.lean ====
/- The ideal operations on reals, and the reductions of a row: sums, the greatest entry, the shifted softmax. -/
module

public import Idealize.ShloMosaic.PureOps.Ideal
public import Idealize.ShloMosaic.PureOps.Ideal.Laws
public import proofs.«01_k».proof.Proof.Model

@[expose] public section

noncomputable section

namespace Cert.Block

open Idealize.ShloMosaic

/-- A sum of reals is a real. -/
theorem sum_coe {ι : Type} (s : Finset ι) (f : ι → ℝ) : ∑ i ∈ s, ((f i : ℝ) : EReal) = ((∑ i ∈ s, f i : ℝ) : EReal) := by
  classical
  induction s using Finset.induction with
  | empty => simp
  | insert a s ha ih => rw [Finset.sum_insert ha, Finset.sum_insert ha, ih, EReal.coe_add]

/-- A sum of products of reals is a real. -/
theorem sum_mul_coe {ι : Type} [Fintype ι] {f g : ι → EReal} {a b : ι → ℝ} (hf : ∀ i, f i = ((a i : ℝ) : EReal))
    (hg : ∀ i, g i = ((b i : ℝ) : EReal)) : ∑ i, f i * g i = ((∑ i, a i * b i : ℝ) : EReal) := by
  rw [← sum_coe]
  exact Finset.sum_congr rfl fun i _ => by rw [hf, hg, EReal.coe_mul]

theorem div_real (a b : ℝ) (h : b ≠ 0) : Ideal.div (a : EReal) (b : EReal) = ((a / b : ℝ) : EReal) := by
  rw [Ideal.div_coe h, ← EReal.coe_mul, mul_one_div]

theorem rsqrt_real (a : ℝ) (h : 0 < a) : Ideal.rsqrt (a : EReal) = (((Real.sqrt a)⁻¹ : ℝ) : EReal) := by
  rw [Ideal.rsqrt_coe, if_neg (not_lt.mpr h.le), if_neg h.ne']

theorem sqrt_real (a : ℝ) (h : 0 ≤ a) : Ideal.sqrt (a : EReal) = ((Real.sqrt a : ℝ) : EReal) := by
  rw [Ideal.sqrt_coe, if_neg (not_lt.mpr h)]

theorem logistic_real (a : ℝ) : Ideal.logistic (a : EReal) = ((1 / (1 + Real.exp (-a)) : ℝ) : EReal) := by
  have h : (1 + Real.exp (-a)) ≠ 0 := (add_pos one_pos (Real.exp_pos _)).ne'
  unfold Ideal.logistic
  rw [← EReal.coe_neg, Ideal.exp_coe, ← EReal.coe_one, ← EReal.coe_add, div_real _ _ h]

/-- The greatest of the entries, when one of them bounds the others. -/
theorem fold_max_eq {n : Nat} (f : Fin n → EReal) (a : Fin n) (h : ∀ j, f j ≤ f a) :
    Finset.fold max ⊥ f Finset.univ = f a := by
  apply le_antisymm
  · exact (Finset.fold_max_le _).mpr ⟨bot_le, fun j _ => h j⟩
  · exact Finset.le_fold_max _ |>.mpr (Or.inr ⟨a, Finset.mem_univ _, le_rfl⟩)

/-- The greatest of a row of reals and `⊥`s, not all `⊥`, is a real. -/
theorem fold_max_real {n : Nat} (M : Fin n → Prop) [DecidablePred M] (S : Fin n → ℝ) (hM : ∃ j, ¬ M j) :
    ∃ m : ℝ, Finset.fold max ⊥ (fun j => if M j then (⊥ : EReal) else ((S j : ℝ) : EReal)) Finset.univ = (m : EReal) := by
  obtain ⟨j0, h0⟩ := hM
  obtain ⟨a, -, ha⟩ := Finset.exists_max_image (Finset.univ : Finset (Fin n))
    (fun j => if M j then (⊥ : EReal) else ((S j : ℝ) : EReal)) ⟨j0, Finset.mem_univ _⟩
  refine ⟨S a, ?_⟩
  rw [fold_max_eq _ a (fun j => ha j (Finset.mem_univ _))]
  by_cases hMa : M a
  · have := ha j0 (Finset.mem_univ _)
    simp [hMa, h0] at this
  · rw [if_neg hMa]

/-- The softmax of a row of reals and `⊥`s does not depend on the real taken off every entry. -/
theorem soft_shift {n : Nat} (M : Fin n → Prop) [DecidablePred M] (S : Fin n → ℝ) (hM : ∃ j, ¬ M j) (m : ℝ) (j : Fin n) :
    Ideal.div (Ideal.exp ((if M j then (⊥ : EReal) else ((S j : ℝ) : EReal)) - (m : EReal)))
        (∑ k, Ideal.exp ((if M k then (⊥ : EReal) else ((S k : ℝ) : EReal)) - (m : EReal)))
      = ((soft M S j : ℝ) : EReal) := by
  have he : ∀ k, Ideal.exp ((if M k then (⊥ : EReal) else ((S k : ℝ) : EReal)) - (m : EReal))
      = (((if M k then 0 else Real.exp (S k)) * Real.exp (-m) : ℝ) : EReal) := by
    intro k
    by_cases hk : M k
    · simp [hk]
    · rw [if_neg hk, if_neg hk, ← EReal.coe_sub, Ideal.exp_coe, sub_eq_add_neg, Real.exp_add]
  obtain ⟨j0, h0⟩ := hM
  have hpos : 0 < ∑ k, (if M k then 0 else Real.exp (S k)) := by
    refine Finset.sum_pos' (fun k _ => ?_) ⟨j0, Finset.mem_univ _, ?_⟩
    · split
      · exact le_rfl
      · exact (Real.exp_pos _).le
    · rw [if_neg h0]; exact Real.exp_pos _
  rw [he j, Finset.sum_congr rfl (fun k _ => he k), sum_coe, ← Finset.sum_mul,
    div_real _ _ (mul_ne_zero hpos.ne' (Real.exp_pos _).ne'), mul_div_mul_right _ _ (Real.exp_pos _).ne']
  rfl

/-- The softmax as it is run: the greatest entry taken off, the exponentials divided by their sum. -/
theorem soft_run {n : Nat} (M : Fin n → Prop) [DecidablePred M] (S : Fin n → ℝ) (hM : ∃ j, ¬ M j) (s : Fin n → EReal)
    (hs : ∀ j, s j = if M j then (⊥ : EReal) else ((S j : ℝ) : EReal)) (j : Fin n) :
    Ideal.div (Ideal.exp (s j - Finset.fold max ⊥ s Finset.univ))
        (∑ k, Ideal.exp (s k - Finset.fold max ⊥ s Finset.univ))
      = ((soft M S j : ℝ) : EReal) := by
  obtain rfl : s = fun j => if M j then (⊥ : EReal) else ((S j : ℝ) : EReal) := funext hs
  obtain ⟨m, hm⟩ := fold_max_real M S hM
  rw [hm]
  exact soft_shift M S hM m j

/-- The softmax of a row of reals, as it is run. -/
theorem soft_run_all {n : Nat} (S : Fin n → ℝ) (s : Fin n → EReal) (hs : ∀ j, s j = ((S j : ℝ) : EReal)) (j : Fin n) :
    Ideal.div (Ideal.exp (s j - Finset.fold max ⊥ s Finset.univ))
        (∑ k, Ideal.exp (s k - Finset.fold max ⊥ s Finset.univ))
      = ((soft (fun _ => False) S j : ℝ) : EReal) :=
  soft_run (fun _ => False) S ⟨j, id⟩ s (fun k => by rw [hs, if_neg id]) j

/-- The normalization as the reference runs it. -/
theorem ln_sqrt (g b v : Fin 32 → ℝ) (d : Fin 32) :
    Ideal.div (((v d - mean v : ℝ) : EReal)) (Ideal.sqrt ((var v + eps : ℝ) : EReal)) * ((g d : ℝ) : EReal) + ((b d : ℝ) : EReal)
      = ((ln g b v d : ℝ) : EReal) := by
  rw [sqrt_real _ (var_eps_pos v).le, div_real _ _ (Real.sqrt_pos.mpr (var_eps_pos v)).ne', ← EReal.coe_mul, ← EReal.coe_add]
  rfl

/-- The normalization as the kernel runs it. -/
theorem ln_rsqrt (g b v : Fin 32 → ℝ) (d : Fin 32) :
    ((v d - mean v : ℝ) : EReal) * Ideal.rsqrt ((var v + eps : ℝ) : EReal) * ((g d : ℝ) : EReal) + ((b d : ℝ) : EReal)
      = ((ln g b v d : ℝ) : EReal) := by
  rw [rsqrt_real _ (var_eps_pos v), ← EReal.coe_mul, ← EReal.coe_mul, ← EReal.coe_add, ← div_eq_mul_inv]
  rfl

end Cert.Block
-- ==== Proof.Consts.lean ====
/- The printed float constants as reals. -/
module

public import Idealize.ShloMosaic.PureOps.Ideal
public import proofs.«01_k».proof.Proof.Model

@[expose] public section

noncomputable section

namespace Cert.Block

open Idealize.ShloMosaic

theorem ofBits_scale : Ideal.ofBits .f32 0x3EB504F3#32 = ((scale : ℝ) : EReal) := by
  simp [Ideal.ofBits, Ideal.ieee, scale, -EReal.coe_mul]; norm_num

theorem ofBits_eps : Ideal.ofBits .f32 0x3727C5AC#32 = ((eps : ℝ) : EReal) := by
  simp [Ideal.ofBits, Ideal.ieee, eps, -EReal.coe_mul]; norm_num

theorem ofBits_32 : Ideal.ofBits .f32 0x42000000#32 = ((32 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

theorem ofBits_top : Ideal.ofBits .f32 0x7F800000#32 = (⊤ : EReal) := by
  simp [Ideal.ofBits, Ideal.ieee]

end Cert.Block
-- ==== Proof.KHeadRead.lean ====
/- The kernel's attention at the ideal instance, read at an index, over real projections. -/
module

public import proofs.«01_k».proof.Proof.KOps
public import proofs.«01_k».proof.Proof.Arith
public import proofs.«01_k».proof.Proof.Consts
public import Idealize.ShloMosaic.Lib.Pointwise.Tactic
public import Idealize.ShloMosaic.Lib.Pointwise.Reshape
public import Idealize.ShloMosaic.Lib.Pointwise.Reduce
public import Idealize.ShloMosaic.Lib.Pointwise.Contract

@[expose] public section

set_option maxRecDepth 16384

noncomputable section

namespace Cert.Block.K

open Idealize.ShloMosaic Cert.KernelIdeal Cert.KernelIdeal.Gen

/-- The token of a lane. -/
def tok (L : Fin 2048) : Fin 8 := ⟨L.val / 256, by omega⟩

/-- The batch row of a lane. -/
def bat (L : Fin 2048) : Fin 256 := ⟨L.val % 256, by omega⟩

/-- The lane of a token and a batch row. -/
def lane (i : Fin 8) (l : Fin 256) : Fin 2048 := ⟨i.val * 256 + l.val, by omega⟩

@[simp] theorem tok_lane (i : Fin 8) (l : Fin 256) : tok (lane i l) = i := by
  apply Fin.ext; simp only [tok, lane]; omega

@[simp] theorem bat_lane (i : Fin 8) (l : Fin 256) : bat (lane i l) = l := by
  apply Fin.ext; simp only [bat, lane]; omega

theorem named_mask (w : BitVec 32) : (Named.named κ "mask" w : Ideal .f32) = (⊥ : EReal) :=
  IdealRules.named_const.ideal_named_scalar _ _ _ _ rfl

theorem named_inv31 (w : BitVec 32) : (Named.named κ "inv31" w : Ideal .f32) = ((31⁻¹ : ℝ) : EReal) :=
  IdealRules.named_const.ideal_named_scalar _ _ _ _ rfl

theorem rowQ_apply (R : FVec Ideal S96x8x256 .f32) (r : Nat) (h : r < 96) (i j : Fin 8) (l : Fin 256) :
    rowQ R r h (ix3 i j l) = R (ix3 ⟨r, h⟩ i l) := by
  unfold rowQ
  pointwise

theorem rowK_apply (R : FVec Ideal S96x8x256 .f32) (r c : Nat) (h : r + 8 ≤ 96) (hc : c < 8) (i j : Fin 8) (l : Fin 256) :
    rowK R r c h hc (ix3 i j l) = R (ix3 ⟨r + j.val, by omega⟩ ⟨c, hc⟩ l) := by
  unfold rowK
  pointwise

theorem rowV_apply (R : FVec Ideal S96x8x256 .f32) (r c : Nat) (h : r + 8 ≤ 96) (hc : c < 8) (i j : Fin 8) (l : Fin 256) :
    rowV R r c h hc (ix3 i j l) = R (ix3 ⟨r + i.val, by omega⟩ ⟨c, hc⟩ l) := by
  unfold rowV
  pointwise

theorem colW_apply (W : FVec Ideal S8x8x256 .f32) (c : Nat) (hc : c < 8) (d i : Fin 8) (l : Fin 256) :
    colW W c hc (ix3 d i l) = W (ix3 i ⟨c, hc⟩ l) := by
  unfold colW
  pointwise

/-- The mask is set on the tokens three or more before a token. -/
theorem pay4_apply (i j : Fin 8) : k0_pay4 (ix3 i j 0) = if j.val + 3 ≤ i.val then 1#1 else 0#1 := by
  revert i j; decide

theorem masked_apply (S : FVec Ideal S8x8x256 .f32) (i j : Fin 8) (l : Fin 256) (s : ℝ) (h : S (ix3 i j l) = (s : EReal)) :
    masked k0_pay4 S (ix3 i j l) = if j.val + 3 ≤ i.val then (⊥ : EReal) else ((s * scale : ℝ) : EReal) := by
  unfold masked
  pointwise [pay4_apply, named_mask, h, ofBits_scale]
  split
  · rfl
  · rw [EReal.coe_mul]; rfl

theorem expd_apply (E : FVec Ideal S8x8x256 .f32) (i j : Fin 8) (l : Fin 256) :
    expd E (ix3 i j l) = Ideal.exp (E (ix3 i j l) - Finset.fold max ⊥ (fun k => E (ix3 i k l)) Finset.univ) := by
  unfold expd
  pointwise [ofBits_bot]

theorem normd_apply (E : FVec Ideal S8x8x256 .f32) (i j : Fin 8) (l : Fin 256) :
    normd E (ix3 i j l) = Ideal.div (E (ix3 i j l)) (∑ k, E (ix3 i k l)) := by
  unfold normd
  pointwise

section
variable (R : FVec Ideal S96x8x256 .f32) (h : Nat) (hh : h < 4) (l : Fin 256) (q k v : Fin 8 → Fin 8 → ℝ)

/-- The scores of a head before scaling. -/
theorem score_apply (hq : ∀ i c : Fin 8, R (ix3 ⟨8 * h + c.val, by omega⟩ i l) = ((q i c : ℝ) : EReal))
    (hk : ∀ c j : Fin 8, R (ix3 ⟨32 + 8 * h + j.val, by omega⟩ c l) = ((k c j : ℝ) : EReal)) (i j : Fin 8) :
    score R h hh (ix3 i j l) = ((∑ c, q i c * k c j : ℝ) : EReal) := by
  have one : ∀ c : Fin 8, qk R h hh c.val c.isLt (ix3 i j l) = ((q i c * k c j : ℝ) : EReal) := by
    intro c
    unfold qk
    show rowQ R _ _ (ix3 i j l) * rowK R _ _ _ _ (ix3 i j l) = _
    rw [rowQ_apply, rowK_apply, hq i c, EReal.coe_mul]
    exact congrArg _ (hk c j)
  show ((((((((_ : EReal) + _) + _) + _) + _) + _) + _) + _) = _
  rw [Fin.sum_univ_eight]
  simp only [EReal.coe_add]
  rw [← one 0, ← one 1, ← one 2, ← one 3, ← one 4, ← one 5, ← one 6, ← one 7]
  rfl

/-- The attention weights of a head. -/
theorem weights_apply (hq : ∀ i c : Fin 8, R (ix3 ⟨8 * h + c.val, by omega⟩ i l) = ((q i c : ℝ) : EReal))
    (hk : ∀ c j : Fin 8, R (ix3 ⟨32 + 8 * h + j.val, by omega⟩ c l) = ((k c j : ℝ) : EReal)) (i j : Fin 8) :
    weights R k0_pay4 h hh (ix3 i j l) = ((soft (fun j : Fin 8 => j.val + 3 ≤ i.val) (Block.score q k i) j : ℝ) : EReal) := by
  unfold weights
  rw [normd_apply]
  simp only [expd_apply]
  exact soft_run (fun j : Fin 8 => j.val + 3 ≤ i.val) (Block.score q k i) ⟨i, by omega⟩ _
    (fun j => masked_apply _ i j l _ (score_apply R h hh l q k hq hk i j)) j

/-- The output of a head. -/
theorem head_apply (hq : ∀ i c : Fin 8, R (ix3 ⟨8 * h + c.val, by omega⟩ i l) = ((q i c : ℝ) : EReal))
    (hk : ∀ c j : Fin 8, R (ix3 ⟨32 + 8 * h + j.val, by omega⟩ c l) = ((k c j : ℝ) : EReal))
    (hv : ∀ j c : Fin 8, R (ix3 ⟨64 + 8 * h + c.val, by omega⟩ j l) = ((v j c : ℝ) : EReal))
    (L : Fin 2048) (hL : bat L = l) (d : Fin 8) :
    head R k0_pay4 h hh (ix2 d L) = ((headOut q k v (tok L) d : ℝ) : EReal) := by
  have one : ∀ j : Fin 8, pv R (weights R k0_pay4 h hh) h hh j.val j.isLt (ix3 d (tok L) l)
      = ((soft (fun j : Fin 8 => j.val + 3 ≤ (tok L).val) (Block.score q k (tok L)) j * v j d : ℝ) : EReal) := by
    intro j
    unfold pv
    show rowV R _ _ _ _ (ix3 d (tok L) l) * colW _ _ _ (ix3 d (tok L) l) = _
    rw [rowV_apply, colW_apply, weights_apply R h hh l q k hq hk, mul_comm, EReal.coe_mul]
    exact congrArg _ (hv j d)
  unfold head headOf
  pointwise
  show ((((((((pv R _ h hh 0 _ (ix3 d (tok L) (bat L)) : EReal) + _) + _) + _) + _) + _) + _) + _) = _
  unfold headOut
  rw [Fin.sum_univ_eight]
  simp only [EReal.coe_add]
  rw [← one 0, ← one 1, ← one 2, ← one 3, ← one 4, ← one 5, ← one 6, ← one 7, hL]
  subst hL
  rfl

end

end Cert.Block.K
-- ==== Proof.KRead.lean ====
/- The kernel's body at the ideal instance, read at an index, over real windows: it is the block over the reals. -/
module

public import proofs.«01_k».proof.Proof.KHeadRead
public import Idealize.ShloMosaic.Lib.Pipeline.Value

@[expose] public section

set_option maxRecDepth 16384

noncomputable section

namespace Cert.Block.K

open Idealize.ShloMosaic Cert.KernelIdeal Cert.KernelIdeal.Gen

theorem lanes_apply (x0 : Vec Ideal S1x32x8x256 .f32) (d : Fin 32) (L : Fin 2048) :
    lanes x0 (ix2 d L) = x0 (ix4 0 d (tok L) (bat L)) := by
  unfold lanes
  pointwise
  rfl

theorem lnMean_apply (v : FVec Ideal S32x2048 .f32) (a : Fin 32 → ℝ) (L : Fin 2048)
    (hv : ∀ d, v (ix2 d L) = ((a d : ℝ) : EReal)) (d : Fin 32) : lnMean v (ix2 d L) = ((mean a : ℝ) : EReal) := by
  unfold lnMean
  pointwise [hv, ofBits_32]
  rw [sum_coe, div_real _ _ (by norm_num)]
  rfl

theorem lnScale_apply (c : FVec Ideal S32x2048 .f32) (a : Fin 32 → ℝ) (L : Fin 2048)
    (hc : ∀ d, c (ix2 d L) = ((a d - mean a : ℝ) : EReal)) (d : Fin 32) :
    lnScale c (ix2 d L) = Ideal.rsqrt ((var a + eps : ℝ) : EReal) := by
  unfold lnScale
  pointwise [hc, named_inv31, ofBits_eps]
  rw [sum_mul_coe (fun _ => rfl) (fun _ => rfl), ← EReal.coe_mul, ← EReal.coe_add]
  rfl

/-- The kernel's normalization is the normalization over the reals. -/
theorem lnK_apply (v : FVec Ideal S32x2048 .f32) (g b : Vec Ideal S32x1 .f32) (a gr br : Fin 32 → ℝ) (L : Fin 2048)
    (hv : ∀ d, v (ix2 d L) = ((a d : ℝ) : EReal)) (hg : ∀ d, g (ix2 d 0) = ((gr d : ℝ) : EReal))
    (hb : ∀ d, b (ix2 d 0) = ((br d : ℝ) : EReal)) (d : Fin 32) :
    lnK v g b (ix2 d L) = ((ln gr br a d : ℝ) : EReal) := by
  have hc : ∀ d, subf v (lnMean v) (ix2 d L) = ((a d - mean a : ℝ) : EReal) := by
    intro d
    show v (ix2 d L) - lnMean v (ix2 d L) = _
    rw [hv, lnMean_apply v a L hv, EReal.coe_sub]
  unfold lnK
  pointwise [hg, hb, lnScale_apply _ a L hc, hv, lnMean_apply v a L hv]
  rw [← EReal.coe_sub]
  exact ln_rsqrt gr br a d

theorem proj_apply (v : FVec Ideal S32x2048 .f32) (w : Vec Ideal S96x32 .f32) (r : Fin 96) (i : Fin 8) (l : Fin 256) :
    proj v w (ix3 r i l) = ∑ d, w (ix2 r d) * v (ix2 d (lane i l)) := by
  unfold proj
  pointwise
  rfl

/-- The heads one under the other: row `d` is channel `d % 8` of head `d / 8`. -/
theorem heads_apply (R : FVec Ideal S96x8x256 .f32) (M : IVec S8x8x1 1) (d : Fin 32) (L : Fin 2048) :
    (concatenate S32x2048 0 [⟨S8x2048, head R M 0 (by decide)⟩, ⟨S8x2048, head R M 1 (by decide)⟩,
      ⟨S8x2048, head R M 2 (by decide)⟩, ⟨S8x2048, head R M 3 (by decide)⟩]
      concatenates_S8x2048_S8x2048_S8x2048_S8x2048_S32x2048_d0) (ix2 d L)
      = head R M (d.val / 8) (by omega) (ix2 ⟨d.val % 8, by omega⟩ L) :=
  concatenate_ofFn_apply (t := S32x2048) (s₁ := S8x2048) 0 (fun n : Fin 4 => head R M n.val n.isLt)
    concatenates_S8x2048_S8x2048_S8x2048_S8x2048_S32x2048_d0 rfl 8 rfl (ix2 d L) ⟨d.val / 8, by omega⟩ rfl
    (ix2 ⟨d.val % 8, by omega⟩ L) rfl (fun b hb => by
      match b with
      | ⟨0, _⟩ => exact absurd rfl hb
      | ⟨1, _⟩ => rfl)

/-- The lanes after attention, over a batch row of reals. -/
theorem xaK_apply (W : Wts) (X : Fin 8 → Fin 32 → ℝ) (x0 : Vec Ideal S1x32x8x256 .f32) (x1 x2 : Vec Ideal S32x1 .f32)
    (x5 : Vec Ideal S96x32 .f32) (x6 : Vec Ideal S32x32 .f32) (x7 : Vec Ideal S32x1 .f32) (l : Fin 256)
    (h0 : ∀ d i, x0 (ix4 0 d i l) = ((X i d : ℝ) : EReal)) (h1 : ∀ d, x1 (ix2 d 0) = ((W.g1 d : ℝ) : EReal))
    (h2 : ∀ d, x2 (ix2 d 0) = ((W.b1 d : ℝ) : EReal))
    (hq : ∀ (h : Fin 4) (c : Fin 8) d, x5 (ix2 ⟨8 * h.val + c.val, by omega⟩ d) = ((W.qw h 0 d c + W.qw h 1 d c : ℝ) : EReal))
    (hk : ∀ (h : Fin 4) (c : Fin 8) d, x5 (ix2 ⟨32 + 8 * h.val + c.val, by omega⟩ d) = ((W.kw h d c : ℝ) : EReal))
    (hv : ∀ (h : Fin 4) (c : Fin 8) d, x5 (ix2 ⟨64 + 8 * h.val + c.val, by omega⟩ d) = ((W.vw h d c : ℝ) : EReal))
    (h6 : ∀ d c, x6 (ix2 d c) = ((W.pw c d : ℝ) : EReal)) (h7 : ∀ d, x7 (ix2 d 0) = ((W.pb d : ℝ) : EReal))
    (L : Fin 2048) (hL : bat L = l) (d : Fin 32) :
    xaK x0 x1 x2 x5 x6 x7 (ix2 d L) = ((xa W X (tok L) d : ℝ) : EReal) := by
  have ht : ∀ i d, lnK (lanes x0) x1 x2 (ix2 d (lane i l)) = ((t1 W X i d : ℝ) : EReal) := fun i d =>
    lnK_apply _ _ _ (X i) W.g1 W.b1 _ (fun d => by rw [lanes_apply, tok_lane, bat_lane, h0]) h1 h2 d
  have hR : ∀ (r : Fin 96) (w : Fin 32 → ℝ), (∀ d, x5 (ix2 r d) = ((w d : ℝ) : EReal)) → ∀ i,
      proj (lnK (lanes x0) x1 x2) x5 (ix3 r i l) = ((∑ d, t1 W X i d * w d : ℝ) : EReal) := by
    intro r w hw i
    rw [proj_apply, sum_mul_coe hw (ht i)]
    simp only [mul_comm]
  have hh : ∀ (h : Fin 4) (c : Fin 8), head (proj (lnK (lanes x0) x1 x2) x5) k0_pay4 h.val h.isLt (ix2 c L)
      = ((Block.head W X h (tok L) c : ℝ) : EReal) := fun h c =>
    head_apply _ h.val h.isLt l (qry W X h) (key W X h) (val W X h) (fun i c => hR _ _ (hq h c) i)
      (fun i c => hR _ _ (hk h c) i) (fun i c => hR _ _ (hv h c) i) L hL c
  have hc : ∀ c : Fin 32, head (proj (lnK (lanes x0) x1 x2) x5) k0_pay4 (c.val / 8) (by omega) (ix2 ⟨c.val % 8, by omega⟩ L)
      = ((cat W X (tok L) c : ℝ) : EReal) := fun c => hh ⟨c.val / 8, by omega⟩ ⟨c.val % 8, by omega⟩
  unfold xaK attn
  pointwise [heads_apply, lanes_apply, hc, hL, h0, h6, h7]
  rw [sum_mul_coe (fun _ => rfl) (fun _ => rfl), ← EReal.coe_add, ← EReal.coe_add]
  simp only [mul_comm (W.pw _ _)]
  rfl

/-- The router's logits over a real lane. -/
theorem logits_apply (v : FVec Ideal S32x2048 .f32) (w : Vec Ideal S8x32 .f32) (b : Vec Ideal S8x1 .f32) (t : Fin 32 → ℝ)
    (wr : Fin 32 → Fin 8 → ℝ) (br : Fin 8 → ℝ) (L : Fin 2048) (hv : ∀ d, v (ix2 d L) = ((t d : ℝ) : EReal))
    (hw : ∀ e d, w (ix2 e d) = ((wr d e : ℝ) : EReal)) (hb : ∀ e, b (ix2 e 0) = ((br e : ℝ) : EReal)) (e : Fin 8) :
    logits v w b (ix2 e L) = ((∑ d, t d * wr d e + br e : ℝ) : EReal) := by
  unfold logits
  pointwise [hv, hw, hb]
  rw [sum_mul_coe (fun _ => rfl) (fun _ => rfl), ← EReal.coe_add]
  simp only [mul_comm (wr _ _)]

/-- The least of the numbers of the experts a test holds of, the others standing at eight. -/
theorem fold_first (P : Fin 8 → Bool) (a : Fin 8) (ha : P a = true) (hmin : ∀ e, P e = true → a ≤ e) :
    Finset.fold IntOp.minsi 2147483647#32 (fun x : Fin 8 => if P x = true then BitVec.ofNat 32 x.val else 8#32) Finset.univ
      = BitVec.ofNat 32 a.val := by
  have key : ∀ (p : Fin 2 → Fin 2 → Fin 2 → Bool) (a : Fin 8), p (Fin.ofNat 2 (a.val / 4)) (Fin.ofNat 2 (a.val / 2)) (Fin.ofNat 2 a.val) = true →
      (∀ e : Fin 8, p (Fin.ofNat 2 (e.val / 4)) (Fin.ofNat 2 (e.val / 2)) (Fin.ofNat 2 e.val) = true → a ≤ e) →
      Finset.fold IntOp.minsi 2147483647#32 (fun x : Fin 8 =>
        if p (Fin.ofNat 2 (x.val / 4)) (Fin.ofNat 2 (x.val / 2)) (Fin.ofNat 2 x.val) = true then BitVec.ofNat 32 x.val else 8#32) Finset.univ
      = BitVec.ofNat 32 a.val := by decide +kernel
  have hp : ∀ x : Fin 8, P ⟨(Fin.ofNat 2 (x.val / 4)).val * 4 + (Fin.ofNat 2 (x.val / 2)).val * 2 + (Fin.ofNat 2 x.val).val, by omega⟩ = P x := by
    intro x
    congr 1
    revert x
    decide
  have := key (fun i j k => P ⟨i.val * 4 + j.val * 2 + k.val, by omega⟩) a (by rw [hp]; exact ha)
    (fun e he => hmin e (by rw [← hp]; exact he))
  simpa only [hp] using this

end Cert.Block.K
-- ==== Proof.KRouter.lean ====
/- The kernel's router and experts at the ideal instance, read at an index, over real windows. -/
module

public import proofs.«01_k».proof.Proof.KRead

@[expose] public section

set_option maxRecDepth 16384

noncomputable section

namespace Cert.Block.K

open Idealize.ShloMosaic Cert.KernelIdeal Cert.KernelIdeal.Gen

theorem best_apply (L : FVec Ideal S8x2048 .f32) (l : Fin 8 → EReal) (n : Fin 2048) (hL : ∀ e, L (ix2 e n) = l e)
    (a : Fin 8) (ha : ∀ e, l e ≤ l a) : best L (ix2 0 n) = l a := by
  unfold best
  pointwise [hL, ofBits_bot]
  exact fold_max_eq l a ha

/-- The pick is the first expert holding the greatest logit. -/
theorem pick_apply (L : FVec Ideal S8x2048 .f32) (l : Fin 8 → EReal) (n : Fin 2048) (hL : ∀ e, L (ix2 e n) = l e)
    (a : Fin 8) (ha : ∀ e, l e ≤ l a) (hmin : ∀ e, l e = l a → a ≤ e) :
    pick L (ix2 0 n) = BitVec.ofNat 32 a.val := by
  rw [← fold_first (fun e => decide (l e = l a)) a (by simp) (fun e he => hmin e (by simpa using he))]
  unfold pick num
  pointwise [best_apply L l n hL a ha, hL]
  congr 1
  funext x
  by_cases h : l x = l a
  · simp [h, Scalar.select, FloatOps.cmpf, Ideal.cmp]
  · simp [h, Scalar.select, FloatOps.cmpf, Ideal.cmp]

theorem rest_apply (L : FVec Ideal S8x2048 .f32) (l : Fin 8 → EReal) (n : Fin 2048) (hL : ∀ e, L (ix2 e n) = l e)
    (p : IVec S1x2048 32) (a : Fin 8) (hp : p (ix2 0 n) = BitVec.ofNat 32 a.val) (e : Fin 8) :
    rest L p (ix2 e n) = if e = a then ⊥ else l e := by
  unfold rest num
  pointwise [hL, hp, named_mask]
  have key : ∀ e a : Fin 8, IntOp.cmpi .eq (BitVec.ofNat 32 e.val) (BitVec.ofNat 32 a.val) = if e = a then 1#1 else 0#1 := by
    decide +kernel
  rw [key]
  by_cases h : e = a
  · simp [h, Scalar.select]
  · simp [h, Scalar.select]

theorem lane_tok_bat (n : Fin 2048) : lane (tok n) (bat n) = n :=
  Fin.ext (show n.val / 256 * 256 + n.val % 256 = n.val by omega)

theorem tokExp_apply (m : FVec Ideal S8x256 .f32) (i : Fin 8) (l : Fin 256) : tokExp m (ix2 i l)
    = Ideal.exp (m (ix2 i l) - Finset.fold max ⊥ (fun j => m (ix2 j l)) Finset.univ) := by
  unfold tokExp
  pointwise [ofBits_bot]

theorem tokNorm_apply (m : FVec Ideal S8x256 .f32) (i : Fin 8) (l : Fin 256) : tokNorm m (ix2 i l)
    = Ideal.div (m (ix2 i l)) (∑ j, m (ix2 j l)) := by
  unfold tokNorm
  pointwise

/-- The softmax of a row of lanes, over the reals. -/
theorem tokSoft_apply (m : FVec Ideal S1x2048 .f32) (S : Fin 8 → ℝ) (L : Fin 2048)
    (hm : ∀ i, m (ix2 0 (lane i (bat L))) = ((S i : ℝ) : EReal)) :
    tokSoft m (ix2 0 L) = ((soft (fun _ => False) S (tok L) : ℝ) : EReal) := by
  rw [← soft_run_all S _ hm (tok L)]
  rw [lane_tok_bat]
  unfold tokSoft
  pointwise [tokNorm_apply, tokExp_apply]
  rfl

theorem onlyIf_apply (p : IVec S1x2048 32) (s : FVec Ideal S1x2048 .f32) (a e : Fin 8) (r : ℝ) (L : Fin 2048)
    (hp : p (ix2 0 L) = BitVec.ofNat 32 a.val) (hs : s (ix2 0 L) = ((r : ℝ) : EReal)) :
    onlyIf p s (BitVec.ofNat 32 e.val) (ix2 0 L) = ((if a = e then r else 0 : ℝ) : EReal) := by
  unfold onlyIf
  pointwise [hp, hs]
  have key : ∀ a e : Fin 8, IntOp.cmpi .eq (BitVec.ofNat 32 a.val) (BitVec.ofNat 32 e.val) = if a = e then 1#1 else 0#1 := by
    decide +kernel
  rw [key]
  by_cases h : a = e
  · simp [h, Scalar.select]
  · simp [h, Scalar.select]

/-- The weight of an expert on a lane. -/
theorem wtE_apply (L : FVec Ideal S8x2048 .f32) (G : Fin 8 → Fin 8 → ℝ) (n : Fin 2048)
    (hL : ∀ i e, L (ix2 e (lane i (bat n))) = ((G i e : ℝ) : EReal)) (e : Fin 8) :
    wtE L (BitVec.ofNat 32 e.val) (ix2 0 n) = ((wt G (tok n) e : ℝ) : EReal) := by
  have hn : n = lane (tok n) (bat n) := (lane_tok_bat n).symm
  have t1 : ∀ i, (∀ e, (G i e : EReal) ≤ G i (top1 (G i))) ∧ ∀ e, (G i e : EReal) = G i (top1 (G i)) → top1 (G i) ≤ e :=
    fun i => ⟨fun e => EReal.coe_le_coe_iff.mpr ((top1_spec (G i)).2 e trivial).1,
      fun e h => ((top1_spec (G i)).2 e trivial).2 (EReal.coe_eq_coe_iff.mp h)⟩
  have hb1 : ∀ i, best L (ix2 0 (lane i (bat n))) = ((G i (top1 (G i)) : ℝ) : EReal) := fun i =>
    best_apply L (fun e => (G i e : EReal)) _ (hL i) _ (t1 i).1
  have hp1 : ∀ i, pick L (ix2 0 (lane i (bat n))) = BitVec.ofNat 32 (top1 (G i)).val := fun i =>
    pick_apply L (fun e => (G i e : EReal)) _ (hL i) _ (t1 i).1 (t1 i).2
  have hR : ∀ i e, rest L (pick L) (ix2 e (lane i (bat n))) = if e = top1 (G i) then ⊥ else (G i e : EReal) := fun i e =>
    rest_apply L (fun e => (G i e : EReal)) _ (hL i) _ _ (hp1 i) e
  have hne : ∀ i, top2 (G i) ≠ top1 (G i) := fun i => (top2_spec (G i)).1
  have t2 : ∀ i, (∀ e, (if e = top1 (G i) then ⊥ else (G i e : EReal)) ≤ if top2 (G i) = top1 (G i) then ⊥ else (G i (top2 (G i)) : EReal))
      ∧ ∀ e, (if e = top1 (G i) then ⊥ else (G i e : EReal)) = (if top2 (G i) = top1 (G i) then ⊥ else (G i (top2 (G i)) : EReal))
        → top2 (G i) ≤ e := by
    intro i
    rw [if_neg (hne i)]
    refine ⟨fun e => ?_, fun e h => ?_⟩
    · split
      · exact bot_le
      · rename_i he
        exact EReal.coe_le_coe_iff.mpr ((top2_spec (G i)).2 e he).1
    · split at h
      · exact absurd h.symm (EReal.coe_ne_bot _)
      · rename_i he
        exact ((top2_spec (G i)).2 e he).2 (EReal.coe_eq_coe_iff.mp h)
  have hb2 : ∀ i, best (rest L (pick L)) (ix2 0 (lane i (bat n))) = ((G i (top2 (G i)) : ℝ) : EReal) := fun i => by
    rw [best_apply _ _ _ (hR i) _ (t2 i).1, if_neg (hne i)]
  have hp2 : ∀ i, pick (rest L (pick L)) (ix2 0 (lane i (bat n))) = BitVec.ofNat 32 (top2 (G i)).val := fun i =>
    pick_apply _ _ _ (hR i) _ (t2 i).1 (t2 i).2
  show onlyIf _ _ _ (ix2 0 n) + onlyIf _ _ _ (ix2 0 n) = _
  rw [onlyIf_apply _ _ (top1 (G (tok n))) e (s1 G (tok n)) n (by rw [hn, hp1]; simp) (tokSoft_apply _ _ _ hb1),
    onlyIf_apply _ _ (top2 (G (tok n))) e (s2 G (tok n)) n (by rw [hn, hp2]; simp) (tokSoft_apply _ _ _ hb2), ← EReal.coe_add]
  rfl

theorem rowE_apply {a b : Nat} {ty : EltTy} (x : Vec Ideal ⟨3, ![8, a, b]⟩ ty) (e : Fin 8) (i : Fin a) (j : Fin b) :
    rowE x e.val e.isLt (ix3 0 i j) = x (ix3 e i j) := by
  show x _ = x _
  refine congrArg x (funext fun k => Fin.ext ?_)
  match k with
  | ⟨0, _⟩ => exact Nat.add_zero _
  | ⟨1, _⟩ => show 0 + 1 * i.val = i.val; omega
  | ⟨2, _⟩ => show 0 + 1 * j.val = j.val; omega

theorem hidK_apply (v : FVec Ideal S32x2048 .bf16) (w1 : Vec Ideal S1x128x32 .bf16) (b1 : Vec Ideal S1x128x1 .f32)
    (k : Fin 128) (n : Fin 2048) : hidK v w1 b1 (ix2 k n)
    = ∑ d, w1 (ix3 0 k d) * v (ix2 d n) + b1 (ix3 0 k 0) := by
  unfold hidK
  pointwise

theorem pairK_apply (h : FVec Ideal S128x2048 .f32) (sw : Vec Ideal S1x256x128 .bf16) (sb : Vec Ideal S1x256x1 .f32)
    (m : Fin 256) (n : Fin 2048) : pairK h sw sb (ix2 m n)
    = ∑ k, sw (ix3 0 m k) * h (ix2 k n) + sb (ix3 0 m 0) := by
  unfold pairK
  pointwise

/-- Expert `e`'s weighted output without its last bias, over a real lane. -/
theorem moeE_apply (W : Wts) (v : FVec Ideal S32x2048 .bf16) (L : FVec Ideal S8x2048 .f32) (x10 : Vec Ideal S8x128x32 .bf16)
    (x11 : Vec Ideal S8x128x1 .f32) (x12 : Vec Ideal S8x256x128 .bf16) (x13 : Vec Ideal S8x256x1 .f32)
    (x14 : Vec Ideal S8x1x1 .f32) (x15 : Vec Ideal S8x32x128 .bf16) (t : Fin 32 → ℝ) (w : Fin 8 → ℝ) (n : Fin 2048)
    (hv : ∀ d, v (ix2 d n) = ((t d : ℝ) : EReal))
    (hw : ∀ e : Fin 8, wtE L (BitVec.ofNat 32 e.val) (ix2 0 n) = ((w e : ℝ) : EReal))
    (h10 : ∀ e k d, x10 (ix3 e k d) = ((W.ew1 e d k : ℝ) : EReal))
    (h11 : ∀ e k, x11 (ix3 e k 0) = ((W.eb1 e k : ℝ) : EReal))
    (h12 : ∀ e (m : Fin 128) k, x12 (ix3 e ⟨m.val, by omega⟩ k) = ((W.esw e k m : ℝ) : EReal))
    (h12' : ∀ e (m : Fin 128) k, x12 (ix3 e ⟨128 + m.val, by omega⟩ k) = ((W.egw e k m : ℝ) : EReal))
    (h13 : ∀ e (m : Fin 128), x13 (ix3 e ⟨m.val, by omega⟩ 0) = ((W.esb e m : ℝ) : EReal))
    (h13' : ∀ e (m : Fin 128), x13 (ix3 e ⟨128 + m.val, by omega⟩ 0) = ((W.egb e m : ℝ) : EReal))
    (h14 : ∀ e, x14 (ix3 e 0 0) = ((W.ebeta e : ℝ) : EReal))
    (h15 : ∀ e d m, x15 (ix3 e d m) = ((W.ew2 e m d : ℝ) : EReal)) (e : Fin 8) (d : Fin 32) :
    moeE v L x10 x11 x12 x13 x14 x15 e.val e.isLt (ix2 d n)
      = ((∑ m, W.ew2 e m d * (gated W e t m * w e) : ℝ) : EReal) := by
  have hh : ∀ k, hidK v (rowE x10 e.val e.isLt) (rowE x11 e.val e.isLt) (ix2 k n) = ((hid W e t k : ℝ) : EReal) := by
    intro k
    rw [hidK_apply, rowE_apply, h11, sum_mul_coe (fun d => by rw [rowE_apply, h10]) hv, ← EReal.coe_add]
    simp only [mul_comm (W.ew1 _ _ _)]
    rfl
  have hs : ∀ m : Fin 128, pairK (hidK v (rowE x10 e.val e.isLt) (rowE x11 e.val e.isLt)) (rowE x12 e.val e.isLt)
      (rowE x13 e.val e.isLt) (ix2 ⟨m.val, by omega⟩ n) = ((sx W e t m : ℝ) : EReal) := by
    intro m
    rw [pairK_apply, rowE_apply, h13, sum_mul_coe (fun d => by rw [rowE_apply, h12]) hh, ← EReal.coe_add]
    simp only [mul_comm (W.esw _ _ _)]
    rfl
  have hg : ∀ m : Fin 128, pairK (hidK v (rowE x10 e.val e.isLt) (rowE x11 e.val e.isLt)) (rowE x12 e.val e.isLt)
      (rowE x13 e.val e.isLt) (ix2 ⟨128 + m.val, by omega⟩ n) = ((gl W e t m : ℝ) : EReal) := by
    intro m
    rw [pairK_apply, rowE_apply, h13', sum_mul_coe (fun d => by rw [rowE_apply, h12']) hh, ← EReal.coe_add]
    simp only [mul_comm (W.egw _ _ _)]
    rfl
  unfold moeE moe lastK gatedK loK hiK
  pointwise [hs, hg, rowE_apply, h14, h15, hw]
  rw [← sum_coe]
  refine Finset.sum_congr rfl fun m _ => ?_
  rw [← EReal.coe_mul, logistic_real]
  simp only [← EReal.coe_mul]
  rfl

/-- The eight weights one under the other. -/
theorem wts_apply (L : FVec Ideal S8x2048 .f32) (e : Fin 8) (n : Fin 2048) :
    (concatenate S8x2048 0 [⟨S1x2048, wtE L 0#32⟩, ⟨S1x2048, wtE L 1#32⟩, ⟨S1x2048, wtE L 2#32⟩, ⟨S1x2048, wtE L 3#32⟩,
      ⟨S1x2048, wtE L 4#32⟩, ⟨S1x2048, wtE L 5#32⟩, ⟨S1x2048, wtE L 6#32⟩, ⟨S1x2048, wtE L 7#32⟩]
      concatenates_S1x2048_S1x2048_S1x2048_S1x2048_S1x2048_S1x2048_S1x2048_S1x2048_S8x2048_d0) (ix2 e n)
      = wtE L (BitVec.ofNat 32 e.val) (ix2 0 n) :=
  concatenate_ofFn_unit_apply (t := S8x2048) (s₁ := S1x2048) 0 (fun e : Fin 8 => wtE L (BitVec.ofNat 32 e.val))
    concatenates_S1x2048_S1x2048_S1x2048_S1x2048_S1x2048_S1x2048_S1x2048_S1x2048_S8x2048_d0 rfl rfl (ix2 e n) e rfl
    (ix2 0 n) (fun b hb => by
      match b with
      | ⟨0, _⟩ => exact absurd rfl hb
      | ⟨1, _⟩ => rfl)

/-- The block's body over a batch row of reals. -/
theorem blockK_apply (W : Wts) (X : Fin 8 → Fin 32 → ℝ) (A : FVec Ideal S32x2048 .f32) (x3 x4 : Vec Ideal S32x1 .f32)
    (x8 : Vec Ideal S8x32 .f32) (x9 : Vec Ideal S8x1 .f32) (x10 : Vec Ideal S8x128x32 .bf16)
    (x11 : Vec Ideal S8x128x1 .f32) (x12 : Vec Ideal S8x256x128 .bf16) (x13 : Vec Ideal S8x256x1 .f32)
    (x14 : Vec Ideal S8x1x1 .f32) (x15 : Vec Ideal S8x32x128 .bf16) (x16 : Vec Ideal S32x8 .f32) (l : Fin 256)
    (hA : ∀ i d, A (ix2 d (lane i l)) = ((xa W X i d : ℝ) : EReal))
    (h3 : ∀ d, x3 (ix2 d 0) = ((W.g2 d : ℝ) : EReal)) (h4 : ∀ d, x4 (ix2 d 0) = ((W.b2 d : ℝ) : EReal))
    (h8 : ∀ e d, x8 (ix2 e d) = ((W.rw d e : ℝ) : EReal)) (h9 : ∀ e, x9 (ix2 e 0) = ((W.rb e : ℝ) : EReal))
    (h10 : ∀ e k d, x10 (ix3 e k d) = ((W.ew1 e d k : ℝ) : EReal))
    (h11 : ∀ e k, x11 (ix3 e k 0) = ((W.eb1 e k : ℝ) : EReal))
    (h12 : ∀ e (m : Fin 128) k, x12 (ix3 e ⟨m.val, by omega⟩ k) = ((W.esw e k m : ℝ) : EReal))
    (h12' : ∀ e (m : Fin 128) k, x12 (ix3 e ⟨128 + m.val, by omega⟩ k) = ((W.egw e k m : ℝ) : EReal))
    (h13 : ∀ e (m : Fin 128), x13 (ix3 e ⟨m.val, by omega⟩ 0) = ((W.esb e m : ℝ) : EReal))
    (h13' : ∀ e (m : Fin 128), x13 (ix3 e ⟨128 + m.val, by omega⟩ 0) = ((W.egb e m : ℝ) : EReal))
    (h14 : ∀ e, x14 (ix3 e 0 0) = ((W.ebeta e : ℝ) : EReal))
    (h15 : ∀ e d m, x15 (ix3 e d m) = ((W.ew2 e m d : ℝ) : EReal))
    (h16 : ∀ d e, x16 (ix2 d e) = ((W.eb2 e d : ℝ) : EReal)) (d : Fin 32) (i : Fin 8) :
    blockK A x3 x4 x8 x9 x10 x11 x12 x13 x14 x15 x16 (ix4 0 d i l) = ((out W X i d : ℝ) : EReal) := by
  have ht : ∀ i d, lnK A x3 x4 (ix2 d (lane i l)) = ((t2 W X i d : ℝ) : EReal) := fun i d =>
    lnK_apply _ _ _ (xa W X i) W.g2 W.b2 _ (hA i) h3 h4 d
  have hL : ∀ i e, logits (lnK A x3 x4) x8 x9 (ix2 e (lane i l)) = ((logit W X i e : ℝ) : EReal) := fun i e =>
    logits_apply _ _ _ (t2 W X i) W.rw W.rb _ (ht i) h8 h9 e
  have hw : ∀ e : Fin 8, wtE (logits (lnK A x3 x4) x8 x9) (BitVec.ofNat 32 e.val) (ix2 0 (lane i l))
      = ((wt (logit W X) i e : ℝ) : EReal) := fun e => by
    rw [wtE_apply _ (logit W X) (lane i l) (fun i e => by rw [bat_lane]; exact hL i e) e, tok_lane]
  have hm : ∀ e : Fin 8, moeE (truncf .bf16 (lnK A x3 x4) bitsLt_bf16_f32) (logits (lnK A x3 x4) x8 x9) x10 x11 x12 x13 x14
      x15 e.val e.isLt (ix2 d (lane i l))
      = ((∑ m, W.ew2 e m d * (gated W e (t2 W X i) m * wt (logit W X) i e) : ℝ) : EReal) := fun e =>
    moeE_apply W _ _ _ _ _ _ _ _ (t2 W X i) (wt (logit W X) i) (lane i l) (ht i) hw h10 h11 h12 h12' h13 h13' h14 h15 e d
  have hx : mix (truncf .bf16 (lnK A x3 x4) bitsLt_bf16_f32) (logits (lnK A x3 x4) x8 x9) x10 x11 x12 x13 x14 x15 x16
      (ix2 d (lane i l)) = (((∑ e, (∑ m, W.ew2 e m d * (gated W e (t2 W X i) m * wt (logit W X) i e)))
        + ∑ e, W.eb2 e d * wt (logit W X) i e : ℝ) : EReal) := by
    have hb : biases (logits (lnK A x3 x4) x8 x9) x16 (ix2 d (lane i l))
        = ((∑ e, W.eb2 e d * wt (logit W X) i e : ℝ) : EReal) := by
      rw [← sum_mul_coe (h16 d) hw]
      unfold biases
      pointwise [wts_apply]
    rw [EReal.coe_add, ← hb, ← sum_coe]
    simp only [← hm]
    rw [Fin.sum_univ_eight]
    unfold mix
    pointwise
  rw [Block.out_eq, EReal.coe_add, ← hx, ← hA]
  unfold blockK
  pointwise
  rfl

end Cert.Block.K
-- ==== Proof.Args.lean ====
/- The program's arguments as arrays of extended reals, and the weights and rows they hold when they are reals. -/
module

public import proofs.«01_k».proof.Proof.Model
public import Idealize.ShloMosaic.Lib.Pointwise.Tactic

@[expose] public section

noncomputable section

namespace Cert.Block

open Idealize.ShloMosaic

/-- The twenty-one argument arrays. -/
structure Args where
  x : FVec Ideal ⟨3, ![2048, 8, 32]⟩ .f32
  g1 : FVec Ideal ⟨1, ![32]⟩ .f32
  b1 : FVec Ideal ⟨1, ![32]⟩ .f32
  g2 : FVec Ideal ⟨1, ![32]⟩ .f32
  b2 : FVec Ideal ⟨1, ![32]⟩ .f32
  kw : FVec Ideal ⟨3, ![4, 32, 8]⟩ .f32
  qw : FVec Ideal ⟨4, ![4, 2, 32, 8]⟩ .f32
  vw : FVec Ideal ⟨3, ![4, 32, 8]⟩ .f32
  pw : FVec Ideal ⟨2, ![32, 32]⟩ .f32
  pb : FVec Ideal ⟨1, ![32]⟩ .f32
  rw : FVec Ideal ⟨2, ![32, 8]⟩ .f32
  rb : FVec Ideal ⟨1, ![8]⟩ .f32
  ew1 : FVec Ideal ⟨3, ![8, 32, 128]⟩ .f32
  eb1 : FVec Ideal ⟨2, ![8, 128]⟩ .f32
  esw : FVec Ideal ⟨3, ![8, 128, 128]⟩ .f32
  esb : FVec Ideal ⟨2, ![8, 128]⟩ .f32
  ebeta : FVec Ideal ⟨1, ![8]⟩ .f32
  egw : FVec Ideal ⟨3, ![8, 128, 128]⟩ .f32
  egb : FVec Ideal ⟨2, ![8, 128]⟩ .f32
  ew2 : FVec Ideal ⟨3, ![8, 128, 32]⟩ .f32
  eb2 : FVec Ideal ⟨2, ![8, 32]⟩ .f32

/-- Every element of the array is a real. -/
def Real' {s : Shape} (x : FVec Ideal s .f32) : Prop := ∀ i, x i = ((EReal.toReal (x i) : ℝ) : EReal)

namespace Args

variable (A : Args)

/-- Every element of every argument is a real. -/
structure Reals : Prop where
  x : Real' A.x
  g1 : Real' A.g1
  b1 : Real' A.b1
  g2 : Real' A.g2
  b2 : Real' A.b2
  kw : Real' A.kw
  qw : Real' A.qw
  vw : Real' A.vw
  pw : Real' A.pw
  pb : Real' A.pb
  rw : Real' A.rw
  rb : Real' A.rb
  ew1 : Real' A.ew1
  eb1 : Real' A.eb1
  esw : Real' A.esw
  esb : Real' A.esb
  ebeta : Real' A.ebeta
  egw : Real' A.egw
  egb : Real' A.egb
  ew2 : Real' A.ew2
  eb2 : Real' A.eb2

/-- The weights the arguments hold. -/
def wts : Wts where
  g1 d := EReal.toReal (A.g1 (ix1 d))
  b1 d := EReal.toReal (A.b1 (ix1 d))
  g2 d := EReal.toReal (A.g2 (ix1 d))
  b2 d := EReal.toReal (A.b2 (ix1 d))
  kw h d c := EReal.toReal (A.kw (ix3 h d c))
  qw h g d c := EReal.toReal (A.qw (ix4 h g d c))
  vw h d c := EReal.toReal (A.vw (ix3 h d c))
  pw c d := EReal.toReal (A.pw (ix2 c d))
  pb d := EReal.toReal (A.pb (ix1 d))
  rw d e := EReal.toReal (A.rw (ix2 d e))
  rb e := EReal.toReal (A.rb (ix1 e))
  ew1 e d k := EReal.toReal (A.ew1 (ix3 e d k))
  eb1 e k := EReal.toReal (A.eb1 (ix2 e k))
  esw e k m := EReal.toReal (A.esw (ix3 e k m))
  esb e m := EReal.toReal (A.esb (ix2 e m))
  ebeta e := EReal.toReal (A.ebeta (ix1 e))
  egw e k m := EReal.toReal (A.egw (ix3 e k m))
  egb e m := EReal.toReal (A.egb (ix2 e m))
  ew2 e m d := EReal.toReal (A.ew2 (ix3 e m d))
  eb2 e d := EReal.toReal (A.eb2 (ix2 e d))

/-- Batch row `n` of the input. -/
def row (n : Fin 2048) (i : Fin 8) (d : Fin 32) : ℝ := EReal.toReal (A.x (ix3 n i d))

/-- The block's output array. -/
def out : FVec Ideal ⟨3, ![2048, 8, 32]⟩ .f32 := fun j => ((Block.out A.wts (A.row (j 0)) (j 1) (j 2) : ℝ) : EReal)

end Args

end Cert.Block
-- ==== Proof.KArray.lean ====
/- The kernel's result array after the run, over real arguments. -/
module

public import proofs.«01_k».proof.Proof.KRouter
public import proofs.«01_k».proof.Proof.Args
public import Idealize.ShloMosaic.Lib.Pipeline.ValueKit

@[expose] public section

set_option maxRecDepth 16384

noncomputable section

namespace Cert.Block.K

open Idealize.ShloMosaic Idealize.ShloMosaic.TcCoe Cert.KernelIdeal Cert.KernelIdeal.Gen
open Idealize.ShloMosaic.Pipeline (Dat)

variable (m : (ℓ : Loc nD τ sig) → Buf (Elt Ideal) ℓ) (c : Dev nD)

/-- The weights' windows stand at the arrays' beginnings at every point. -/
theorem index_zero : ∀ (w : Fin 18), w ≠ 0 → w ≠ 17 → ∀ (t : Fin grid0.N) a, (win0 w).index t a = 0 := by
  decide +kernel

theorem index_x : ∀ t : Fin grid0.N, win0_0.index t = ![t.val, 0, 0, 0] := by decide +kernel

theorem index_o : ∀ t : Fin grid0.N, win0_17.index t = ![t.val, 0, 0, 0] := by decide +kernel

theorem zero_off {x n k : Nat} (h : x = 0) : x * n + 1 * k = k := by rw [h]; omega

/-! Each weight's window holds its whole array. -/

theorem iblk1 (t : Fin cfg0.N) : iblk m c 1 t = V m c main_v14 := funext fun j =>
  congrArg (V m c main_v14) (funext fun a => Fin.ext (zero_off (index_zero 1 (by decide) (by decide) t a)))

theorem iblk2 (t : Fin cfg0.N) : iblk m c 2 t = V m c main_v15 := funext fun j =>
  congrArg (V m c main_v15) (funext fun a => Fin.ext (zero_off (index_zero 2 (by decide) (by decide) t a)))

theorem iblk3 (t : Fin cfg0.N) : iblk m c 3 t = V m c main_v16 := funext fun j =>
  congrArg (V m c main_v16) (funext fun a => Fin.ext (zero_off (index_zero 3 (by decide) (by decide) t a)))

theorem iblk4 (t : Fin cfg0.N) : iblk m c 4 t = V m c main_v17 := funext fun j =>
  congrArg (V m c main_v17) (funext fun a => Fin.ext (zero_off (index_zero 4 (by decide) (by decide) t a)))

theorem iblk5 (t : Fin cfg0.N) : iblk m c 5 t = V m c main_v9 := funext fun j =>
  congrArg (V m c main_v9) (funext fun a => Fin.ext (zero_off (index_zero 5 (by decide) (by decide) t a)))

theorem iblk6 (t : Fin cfg0.N) : iblk m c 6 t = V m c main_v18 := funext fun j =>
  congrArg (V m c main_v18) (funext fun a => Fin.ext (zero_off (index_zero 6 (by decide) (by decide) t a)))

theorem iblk7 (t : Fin cfg0.N) : iblk m c 7 t = V m c main_v19 := funext fun j =>
  congrArg (V m c main_v19) (funext fun a => Fin.ext (zero_off (index_zero 7 (by decide) (by decide) t a)))

theorem iblk8 (t : Fin cfg0.N) : iblk m c 8 t = V m c main_v20 := funext fun j =>
  congrArg (V m c main_v20) (funext fun a => Fin.ext (zero_off (index_zero 8 (by decide) (by decide) t a)))

theorem iblk9 (t : Fin cfg0.N) : iblk m c 9 t = V m c main_v21 := funext fun j =>
  congrArg (V m c main_v21) (funext fun a => Fin.ext (zero_off (index_zero 9 (by decide) (by decide) t a)))

theorem iblk10 (t : Fin cfg0.N) : iblk m c 10 t = V m c main_v23 := funext fun j =>
  congrArg (V m c main_v23) (funext fun a => Fin.ext (zero_off (index_zero 10 (by decide) (by decide) t a)))

theorem iblk11 (t : Fin cfg0.N) : iblk m c 11 t = V m c main_v24 := funext fun j =>
  congrArg (V m c main_v24) (funext fun a => Fin.ext (zero_off (index_zero 11 (by decide) (by decide) t a)))

theorem iblk12 (t : Fin cfg0.N) : iblk m c 12 t = V m c main_v25 := funext fun j =>
  congrArg (V m c main_v25) (funext fun a => Fin.ext (zero_off (index_zero 12 (by decide) (by decide) t a)))

theorem iblk13 (t : Fin cfg0.N) : iblk m c 13 t = V m c main_v13 := funext fun j =>
  congrArg (V m c main_v13) (funext fun a => Fin.ext (zero_off (index_zero 13 (by decide) (by decide) t a)))

theorem iblk14 (t : Fin cfg0.N) : iblk m c 14 t = V m c main_v26 := funext fun j =>
  congrArg (V m c main_v26) (funext fun a => Fin.ext (zero_off (index_zero 14 (by decide) (by decide) t a)))

theorem iblk15 (t : Fin cfg0.N) : iblk m c 15 t = V m c main_v28 := funext fun j =>
  congrArg (V m c main_v28) (funext fun a => Fin.ext (zero_off (index_zero 15 (by decide) (by decide) t a)))

theorem iblk16 (t : Fin cfg0.N) : iblk m c 16 t = V m c main_v29 := funext fun j =>
  congrArg (V m c main_v29) (funext fun a => Fin.ext (zero_off (index_zero 16 (by decide) (by decide) t a)))

theorem iblk0_apply (t : Fin cfg0.N) (d : Fin 32) (i : Fin 8) (l : Fin 256) :
    iblk m c 0 t (ix4 0 d i l) = V m c main_v1 (ix4 (t.cast N_0) d i l) := by
  refine congrArg (V m c main_v1) (funext fun a => Fin.ext ?_)
  have h := index_x t
  match a with
  | ⟨0, _⟩ => show win0_0.index t 0 * 1 + 1 * 0 = t.val; rw [h]; show t.val * 1 + 1 * 0 = _; omega
  | ⟨1, _⟩ => show win0_0.index t 1 * 32 + 1 * d.val = d.val; rw [h]; show 0 * 32 + 1 * d.val = _; omega
  | ⟨2, _⟩ => show win0_0.index t 2 * 8 + 1 * i.val = i.val; rw [h]; show 0 * 8 + 1 * i.val = _; omega
  | ⟨3, _⟩ => show win0_0.index t 3 * 256 + 1 * l.val = l.val; rw [h]; show 0 * 256 + 1 * l.val = _; omega

/-- The arguments a memory holds. -/
def args : Args where
  x := m ((c : Thread nD τ).loc main_arg0)
  g1 := m ((c : Thread nD τ).loc main_arg1)
  b1 := m ((c : Thread nD τ).loc main_arg2)
  g2 := m ((c : Thread nD τ).loc main_arg3)
  b2 := m ((c : Thread nD τ).loc main_arg4)
  kw := m ((c : Thread nD τ).loc main_arg5)
  qw := m ((c : Thread nD τ).loc main_arg6)
  vw := m ((c : Thread nD τ).loc main_arg7)
  pw := m ((c : Thread nD τ).loc main_arg8)
  pb := m ((c : Thread nD τ).loc main_arg9)
  rw := m ((c : Thread nD τ).loc main_arg10)
  rb := m ((c : Thread nD τ).loc main_arg11)
  ew1 := m ((c : Thread nD τ).loc main_arg12)
  eb1 := m ((c : Thread nD τ).loc main_arg13)
  esw := m ((c : Thread nD τ).loc main_arg14)
  esb := m ((c : Thread nD τ).loc main_arg15)
  ebeta := m ((c : Thread nD τ).loc main_arg16)
  egw := m ((c : Thread nD τ).loc main_arg17)
  egb := m ((c : Thread nD τ).loc main_arg18)
  ew2 := m ((c : Thread nD τ).loc main_arg19)
  eb2 := m ((c : Thread nD τ).loc main_arg20)

theorem V_v1 (d : Fin 32) (i : Fin 8) (l : Fin 256) (t : Fin 8) : V m c main_v1 (ix4 t d i l)
    = (args m c).x (ix3 ⟨t.val * 256 + l.val, by omega⟩ i d) := by
  have : V m c main_v1 = transpose S8x32x8x256 [0, 3, 2, 1] (shapeCast S8x256x8x32 (args m c).x
      shapeCasts_S2048x8x32_S8x256x8x32) transposes_S8x256x8x32_S8x32x8x256_0_3_2_1 := by
    show StableHlo.after hostOps0 _ (Proc.devRef .tc main_v1) = _
    after_results
    rfl
  rw [this]
  pointwise

theorem V_v14 (d : Fin 32) : V m c main_v14 (ix2 d 0) = (args m c).g1 (ix1 d) := by
  have : V m c main_v14 = shapeCast S32x1 (args m c).g1 shapeCasts_S32_S32x1 := by
    show StableHlo.after hostOps0 _ (Proc.devRef .tc main_v14) = _
    after_results
    rfl
  rw [this]
  pointwise

theorem V_v15 (d : Fin 32) : V m c main_v15 (ix2 d 0) = (args m c).b1 (ix1 d) := by
  have : V m c main_v15 = shapeCast S32x1 (args m c).b1 shapeCasts_S32_S32x1 := by
    show StableHlo.after hostOps0 _ (Proc.devRef .tc main_v15) = _
    after_results
    rfl
  rw [this]
  pointwise

theorem V_v16 (d : Fin 32) : V m c main_v16 (ix2 d 0) = (args m c).g2 (ix1 d) := by
  have : V m c main_v16 = shapeCast S32x1 (args m c).g2 shapeCasts_S32_S32x1 := by
    show StableHlo.after hostOps0 _ (Proc.devRef .tc main_v16) = _
    after_results
    rfl
  rw [this]
  pointwise

theorem V_v17 (d : Fin 32) : V m c main_v17 (ix2 d 0) = (args m c).b2 (ix1 d) := by
  have : V m c main_v17 = shapeCast S32x1 (args m c).b2 shapeCasts_S32_S32x1 := by
    show StableHlo.after hostOps0 _ (Proc.devRef .tc main_v17) = _
    after_results
    rfl
  rw [this]
  pointwise

theorem V_v19 (d : Fin 32) : V m c main_v19 (ix2 d 0) = (args m c).pb (ix1 d) := by
  have : V m c main_v19 = shapeCast S32x1 (args m c).pb shapeCasts_S32_S32x1 := by
    show StableHlo.after hostOps0 _ (Proc.devRef .tc main_v19) = _
    after_results
    rfl
  rw [this]
  pointwise

theorem V_v18 (d k : Fin 32) : V m c main_v18 (ix2 d k) = (args m c).pw (ix2 k d) := by
  have : V m c main_v18 = transpose S32x32 [1, 0] (args m c).pw transposes_S32x32_S32x32_1_0 := by
    show StableHlo.after hostOps0 _ (Proc.devRef .tc main_v18) = _
    after_results
    rfl
  rw [this]
  pointwise

theorem V_v20 (e : Fin 8) (d : Fin 32) : V m c main_v20 (ix2 e d) = (args m c).rw (ix2 d e) := by
  have : V m c main_v20 = transpose S8x32 [1, 0] (args m c).rw transposes_S32x8_S8x32_1_0 := by
    show StableHlo.after hostOps0 _ (Proc.devRef .tc main_v20) = _
    after_results
    rfl
  rw [this]
  pointwise

theorem V_v21 (e : Fin 8) : V m c main_v21 (ix2 e 0) = (args m c).rb (ix1 e) := by
  have : V m c main_v21 = shapeCast S8x1 (args m c).rb shapeCasts_S8_S8x1 := by
    show StableHlo.after hostOps0 _ (Proc.devRef .tc main_v21) = _
    after_results
    rfl
  rw [this]
  pointwise

theorem V_v23 (e : Fin 8) (k : Fin 128) (d : Fin 32) : V m c main_v23 (ix3 e k d) = (args m c).ew1 (ix3 e d k) := by
  have : V m c main_v23 = truncf .bf16 (transpose S8x128x32 [0, 2, 1] (args m c).ew1 transposes_S8x32x128_S8x128x32_0_2_1) bitsLt_bf16_f32 := by
    show StableHlo.after hostOps0 _ (Proc.devRef .tc main_v23) = _
    after_results
    rfl
  rw [this]
  pointwise

theorem V_v24 (e : Fin 8) (k : Fin 128) : V m c main_v24 (ix3 e k 0) = (args m c).eb1 (ix2 e k) := by
  have : V m c main_v24 = broadcastInDim S8x128x1 ![0, 1] bcast_S8x128_S8x128x1_0_1 (args m c).eb1 := by
    show StableHlo.after hostOps0 _ (Proc.devRef .tc main_v24) = _
    after_results
    rfl
  rw [this]
  pointwise

theorem V_v26 (e : Fin 8) : V m c main_v26 (ix3 e 0 0) = (args m c).ebeta (ix1 e) := by
  have : V m c main_v26 = shapeCast S8x1x1 (args m c).ebeta shapeCasts_S8_S8x1x1 := by
    show StableHlo.after hostOps0 _ (Proc.devRef .tc main_v26) = _
    after_results
    rfl
  rw [this]
  pointwise

theorem V_v28 (e : Fin 8) (d : Fin 32) (k : Fin 128) : V m c main_v28 (ix3 e d k) = (args m c).ew2 (ix3 e k d) := by
  have : V m c main_v28 = truncf .bf16 (transpose S8x32x128 [0, 2, 1] (args m c).ew2 transposes_S8x128x32_S8x32x128_0_2_1) bitsLt_bf16_f32 := by
    show StableHlo.after hostOps0 _ (Proc.devRef .tc main_v28) = _
    after_results
    rfl
  rw [this]
  pointwise

theorem V_v29 (d : Fin 32) (e : Fin 8) : V m c main_v29 (ix2 d e) = (args m c).eb2 (ix2 e d) := by
  have : V m c main_v29 = transpose S32x8 [1, 0] (args m c).eb2 transposes_S8x32_S32x8_1_0 := by
    show StableHlo.after hostOps0 _ (Proc.devRef .tc main_v29) = _
    after_results
    rfl
  rw [this]
  pointwise

/-- The three tables of projection weights, heads one under the other: queries, keys, values. -/
def wqkv (A : Args) : Fin 3 → FVec Ideal S32x32 .f32
  | 0 => shapeCast S32x32 (transpose S4x8x32 [0, 2, 1] (Host.reduceAdd A.qw (constant S_ .f32 0x00000000#32)
      reducesTo_S4x2x32x8_S4x32x8_d1 h_S_) transposes_S4x32x8_S4x8x32_0_2_1) shapeCasts_S4x8x32_S32x32
  | 1 => shapeCast S32x32 (transpose S4x8x32 [0, 2, 1] A.kw transposes_S4x32x8_S4x8x32_0_2_1) shapeCasts_S4x8x32_S32x32
  | 2 => shapeCast S32x32 (transpose S4x8x32 [0, 2, 1] A.vw transposes_S4x32x8_S4x8x32_0_2_1) shapeCasts_S4x8x32_S32x32

theorem V_v9 (k : Fin 3) (r d : Fin 32) : V m c main_v9 (ix2 ⟨32 * k.val + r.val, by omega⟩ d)
    = wqkv (args m c) k (ix2 r d) := by
  have : V m c main_v9 = concatenate S96x32 0 (List.ofFn fun k : Fin 3 => (⟨S32x32, wqkv (args m c) k⟩ : (s : Shape) × (s.Idx → EReal)))
      concatenates_S32x32_S32x32_S32x32_S96x32_d0 := by
    show StableHlo.after hostOps0 _ (Proc.devRef .tc main_v9) = _
    after_results
    rfl
  rw [this]
  refine concatenate_ofFn_apply (t := S96x32) (s₁ := S32x32) 0 (wqkv (args m c))
    concatenates_S32x32_S32x32_S32x32_S96x32_d0 rfl 32 rfl _ k ?_ (ix2 r d) ?_ (fun b hb => by
      match b with
      | ⟨0, _⟩ => exact absurd rfl hb
      | ⟨1, _⟩ => rfl)
  · show (32 * k.val + r.val) / 32 = k.val
    omega
  · show r.val = (32 * k.val + r.val) % 32
    omega

theorem wqkv_q (A : Args) (h : Fin 4) (k : Fin 8) (d : Fin 32) : wqkv A 0 (ix2 ⟨8 * h.val + k.val, by omega⟩ d)
    = A.qw (ix4 h 0 d k) + A.qw (ix4 h 1 d k) := by
  unfold wqkv
  pointwise
  exact Fin.sum_univ_two _

theorem wqkv_k (A : Args) (h : Fin 4) (k : Fin 8) (d : Fin 32) : wqkv A 1 (ix2 ⟨8 * h.val + k.val, by omega⟩ d)
    = A.kw (ix3 h d k) := by
  unfold wqkv
  pointwise

theorem wqkv_v (A : Args) (h : Fin 4) (k : Fin 8) (d : Fin 32) : wqkv A 2 (ix2 ⟨8 * h.val + k.val, by omega⟩ d)
    = A.vw (ix3 h d k) := by
  unfold wqkv
  pointwise

theorem V_v13 (e : Fin 8) (i : Fin 256) : V m c main_v13 (ix3 e i 0)
    = if h : i.val < 128 then (args m c).esb (ix2 e ⟨i.val, h⟩) else (args m c).egb (ix2 e ⟨i.val - 128, by omega⟩) := by
  have : V m c main_v13 = broadcastInDim S8x256x1 ![0, 1] bcast_S8x256_S8x256x1_0_1 (concatenate S8x256 1
      [⟨S8x128, (args m c).esb⟩, ⟨S8x128, (args m c).egb⟩] concatenates_S8x128_S8x128_S8x256_d1) := by
    show StableHlo.after hostOps0 _ (Proc.devRef .tc main_v13) = _
    after_results
    rfl
  rw [this]
  pointwise

theorem V_v25 (e : Fin 8) (i : Fin 256) (k : Fin 128) : V m c main_v25 (ix3 e i k)
    = if h : i.val < 128 then (args m c).esw (ix3 e k ⟨i.val, h⟩) else (args m c).egw (ix3 e k ⟨i.val - 128, by omega⟩) := by
  have : V m c main_v25 = truncf .bf16 (transpose S8x256x128 [0, 2, 1] (concatenate S8x128x256 2
      [⟨S8x128x128, (args m c).esw⟩, ⟨S8x128x128, (args m c).egw⟩] concatenates_S8x128x128_S8x128x128_S8x128x256_d2)
      transposes_S8x128x256_S8x256x128_0_2_1) bitsLt_bf16_f32 := by
    show StableHlo.after hostOps0 _ (Proc.devRef .tc main_v25) = _
    after_results
    rfl
  rw [this]
  pointwise

/-- The array the kernel's blocks fill, over real arguments. -/
def filled (A : Args) : FVec Ideal S8x32x8x256 .f32 := fun j =>
  ((Block.out A.wts (A.row ⟨(j 0).val * 256 + (j 3).val, by
    have h0 : (j 0).val < 8 := (j 0).isLt
    have h3 : (j 3).val < 256 := (j 3).isLt
    omega⟩) (j 2) (j 1) : ℝ) : EReal)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The kernel's result array after the run. -/
theorem arr_eq (hA : (args m c).Reals) : (dats m 0 c).arrAt 17 cfg0.N = filled (args m c) := by
  refine (dats m 0 c).arrAt_eq_of_covers 17 _ (by decide +kernel) fun t hf y => ?_
  blk_simp
  rw [after0_17, out_eq, View.canon_unit_zero hz4]
  rw [View.ld_unit_zero hz4, View.ld_unit_zero hz2, View.ld_unit_zero hz2, View.ld_unit_zero hz2, View.ld_unit_zero hz2,
    View.ld_unit_zero hz2, View.ld_unit_zero hz2, View.ld_unit_zero hz2, View.ld_unit_zero hz2, View.ld_unit_zero hz2,
    View.ld_unit_zero hz2, iblk1, iblk2, iblk3, iblk4, iblk5, iblk6, iblk7, iblk8, iblk9, iblk10, iblk11, iblk12, iblk13,
    iblk14, iblk15, iblk16]
  obtain ⟨d, i, l, rfl⟩ : ∃ (d : Fin 32) (i : Fin 8) (l : Fin 256), y = ix4 0 d i l :=
    ⟨y 1, y 2, y 3, funext fun a => by
      match a with
      | ⟨0, _⟩ => exact Subsingleton.elim (α := Fin 1) _ _
      | ⟨1, _⟩ => rfl
      | ⟨2, _⟩ => rfl
      | ⟨3, _⟩ => rfl⟩
  have hE : (win0_17.blk t).view.emb (ix4 0 d i l) = ix4 (t.cast N_0) d i l := by
    have h := index_o t
    refine funext fun a => Fin.ext ?_
    match a with
    | ⟨0, _⟩ => show win0_17.index t 0 * 1 + 1 * 0 = t.val; rw [h]; show t.val * 1 + 1 * 0 = _; omega
    | ⟨1, _⟩ => show win0_17.index t 1 * 32 + 1 * d.val = d.val; rw [h]; show 0 * 32 + 1 * d.val = _; omega
    | ⟨2, _⟩ => show win0_17.index t 2 * 8 + 1 * i.val = i.val; rw [h]; show 0 * 8 + 1 * i.val = _; omega
    | ⟨3, _⟩ => show win0_17.index t 3 * 256 + 1 * l.val = l.val; rw [h]; show 0 * 256 + 1 * l.val = _; omega
  rw [hE]
  have ht : t.val < 8 := lt_of_lt_of_eq t.isLt N_0
  refine blockK_apply (args m c).wts ((args m c).row ⟨t.val * 256 + l.val, by omega⟩) _ _ _ _ _ _ _ _ _ _ _ _ l (fun i d => ?_)
    (fun d => (V_v16 ..).trans (hA.g2 _)) (fun d => (V_v17 ..).trans (hA.b2 _))
    (fun e d => (V_v20 ..).trans (hA.rw _)) (fun e => (V_v21 ..).trans (hA.rb _))
    (fun e k d => (V_v23 ..).trans (hA.ew1 _)) (fun e k => (V_v24 ..).trans (hA.eb1 _))
    (fun e k d => (V_v25 ..).trans ((dif_pos k.isLt).trans (hA.esw _)))
    (fun e k d => (V_v25 ..).trans ((dif_neg (by dsimp only; omega)).trans ((hA.egw _).trans ?_)))
    (fun e k => (V_v13 ..).trans ((dif_pos k.isLt).trans (hA.esb _)))
    (fun e k => (V_v13 ..).trans ((dif_neg (by dsimp only; omega)).trans ((hA.egb _).trans ?_)))
    (fun e => (V_v26 ..).trans (hA.ebeta _)) (fun e d k => (V_v28 ..).trans (hA.ew2 _))
    (fun d e => (V_v29 ..).trans (hA.eb2 _)) d i
  · refine (xaK_apply (args m c).wts ((args m c).row ⟨t.val * 256 + l.val, by omega⟩) _ _ _ _ _ _ l
      (fun d i => ?_) (fun d => (V_v14 ..).trans (hA.g1 _)) (fun d => (V_v15 ..).trans (hA.b1 _))
      (fun h k d => ?_) (fun h k d => ?_) (fun h k d => ?_)
      (fun d k => (V_v18 ..).trans (hA.pw _)) (fun d => (V_v19 ..).trans (hA.pb _)) (lane i l) (bat_lane i l) d).trans ?_
    · rw [iblk0_apply, V_v1]
      exact hA.x _
    · refine (congrArg (V m c main_v9) ?_).trans ((V_v9 m c 0 ⟨8 * h.val + k.val, by omega⟩ d).trans ?_)
      · congr 1; exact Fin.ext (by dsimp only; show _ = 32 * 0 + _; omega)
      · rw [wqkv_q, hA.qw, hA.qw (ix4 h 1 d k), ← EReal.coe_add]
        rfl
    · refine (congrArg (V m c main_v9) ?_).trans ((V_v9 m c 1 ⟨8 * h.val + k.val, by omega⟩ d).trans ?_)
      · congr 1; exact Fin.ext (by dsimp only; show _ = 32 * 1 + _; omega)
      · rw [wqkv_k, hA.kw]
        rfl
    · refine (congrArg (V m c main_v9) ?_).trans ((V_v9 m c 2 ⟨8 * h.val + k.val, by omega⟩ d).trans ?_)
      · congr 1; exact Fin.ext (by dsimp only; show _ = 32 * 2 + _; omega)
      · rw [wqkv_v, hA.vw]
        rfl
    · rw [tok_lane]
  · simp only [Nat.add_sub_cancel_left, Fin.eta]; rfl
  · simp only [Nat.add_sub_cancel_left, Fin.eta]; rfl

/-- The program's result after the run. -/
theorem result_eq (hA : (args m c).Reals) :
    Pipeline.afterTail₀ cfgs (dats m) 0 (V0 m) [hostOps1] c main_v32 = (args m c).out := by
  have hR : Pipeline.withArrays (cfgs 0).spec c (V0 m c) (fun w => (dats m 0 c).arrAt w (cfgs 0).N)
      (Proc.devRef .tc main_v30) = filled (args m c) :=
    (Pipeline.withArrays_arr (cfgs 0).spec (by decide +kernel) c (V0 m c) _ 17).trans (arr_eq m c hA)
  have : Pipeline.afterTail₀ cfgs (dats m) 0 (V0 m) [hostOps1] c main_v32 = shapeCast S2048x8x32
      (transpose S8x256x8x32 [0, 3, 2, 1] (filled (args m c)) transposes_S8x32x8x256_S8x256x8x32_0_3_2_1)
      shapeCasts_S8x256x8x32_S2048x8x32 := by
    rw [← hR]
    show StableHlo.after hostOps1 _ (Proc.devRef .tc main_v32) = _
    after_results
    rfl
  rw [this]
  funext j
  rw [eq_ix3 j]
  pointwise
  have h : ((j 0).val / 256 * 256 + (j 0).val % 256 : Nat) = (j 0).val := by omega
  show ((Block.out _ ((args m c).row ⟨(j 0).val / 256 * 256 + (j 0).val % 256, _⟩) _ _ : ℝ) : EReal) = _
  simp only [h]
  rfl

/-- The run: the result array is the block of the arguments, and the arguments are unchanged. -/
theorem run (ρ : Dev nD → PrngReg) (hA : ∀ c, (args m c).Reals) :
    θ_run defs (onTc (τ := τ) (main (F := Ideal))) ⟨m, fun _ => 0, ρ⟩ fun r => ∀ c : Dev nD,
      r.2.mem ((c : Thread nD τ).loc main_v32) = (args m c).out :=
  (θ_run defs _ _).mono (fun _ h c => ((h c).2 main_v32 (by decide)).trans (result_eq m c (hA c))) (run_main m ρ)

end Cert.Block.K
-- ==== Proof.ROps.lean ====
/- The reference as a function of its arguments, with the head and the expert stated once; and that what its run leaves
   is this function. -/
module

public import proofs.«01_k».proof.Proof.Args
public import proofs.«01_k».proof.Proof.Gen.ReferenceIdeal.Read

@[expose] public section

set_option maxRecDepth 16384

noncomputable section

namespace Cert.Block.R

open Idealize.ShloMosaic Cert.ReferenceIdeal Cert.ReferenceIdeal.Gen Cert.ReferenceIdeal.Read

/-- The scalar zero. -/
def zero : FVec Ideal S_ .f32 := constant S_ .f32 0x00000000#32

/-- A channel's vector at every token. -/
def chan (v : FVec Ideal S32 .f32) : FVec Ideal S2048x8x32 .f32 :=
  broadcastInDim S2048x8x32 ![0, 1, 2] bcast_S1x1x32_S2048x8x32_0_1_2 (broadcastInDim S1x1x32 ![2] bcast_S32_S1x1x32_2 v)

/-- A token's number at every channel. -/
def wide (v : FVec Ideal S2048x8x1 .f32) : FVec Ideal S2048x8x32 .f32 :=
  broadcastInDim S2048x8x32 ![0, 1, 2] bcast_S2048x8x1_S2048x8x32_0_1_2 v

/-- The sum over the channels. -/
def total (v : FVec Ideal S2048x8x32 .f32) : FVec Ideal S2048x8x1 .f32 :=
  broadcastInDim S2048x8x1 ![0, 1] bcast_S2048x8_S2048x8x1_0_1 (Host.reduceAdd v zero reducesTo_S2048x8x32_S2048x8_d2 h_S_)

/-- The number 32. -/
def n32 : FVec Ideal S_ .f32 := constant S_ .f32 0x42000000#32

/-- The mean over the channels. -/
def lnMean (v : FVec Ideal S2048x8x32 .f32) : FVec Ideal S2048x8x1 .f32 :=
  Host.divf (total v) (broadcastInDim S2048x8x1 ![] bcast_S_S2048x8x1 n32)

/-- The number the variance divides by. -/
def n31 : FVec Ideal S_ .f32 := subf n32 (sitofp .f32 (constantI S_ 32 1#32))

/-- The variance over the channels. -/
def lnVar (v : FVec Ideal S2048x8x32 .f32) : FVec Ideal S2048x8x1 .f32 :=
  select (broadcastInDim S2048x8x1 ![] bcast_S_S2048x8x1 (cmpf .ogt n31 zero))
    (Host.divf (total (mulf (subf v (wide (lnMean v))) (subf v (wide (lnMean v)))))
      (broadcastInDim S2048x8x1 ![] bcast_S_S2048x8x1 n31))
    (broadcastInDim S2048x8x1 ![] bcast_S_S2048x8x1 (constant S_ .f32 0x7FC00000#32))

/-- The normalization. -/
def lnR (v : FVec Ideal S2048x8x32 .f32) (g b : FVec Ideal S32 .f32) : FVec Ideal S2048x8x32 .f32 :=
  addf (mulf (Host.divf (subf v (wide (lnMean v))) (wide (Host.sqrt (addf (lnVar v)
    (broadcastInDim S2048x8x1 ![] bcast_S_S2048x8x1 (constant S_ .f32 0x3727C5AC#32)))))) (chan g)) (chan b)

theorem slices_h {h : Nat} (hh : h < 4) : S4x32x8.Slices ![h, 0, 0] S1x32x8 := by
  refine ⟨rfl, fun a => ?_⟩
  match a with
  | ⟨0, _⟩ => show h + 1 ≤ 4; omega
  | ⟨1, _⟩ => show 0 + 32 ≤ 32; omega
  | ⟨2, _⟩ => show 0 + 8 ≤ 8; omega

theorem slices_q {h g : Nat} (hh : h < 4) (hg : g < 2) : S4x2x32x8.Slices ![h, g, 0, 0] S1x1x32x8 := by
  refine ⟨rfl, fun a => ?_⟩
  match a with
  | ⟨0, _⟩ => show h + 1 ≤ 4; omega
  | ⟨1, _⟩ => show g + 1 ≤ 2; omega
  | ⟨2, _⟩ => show 0 + 32 ≤ 32; omega
  | ⟨3, _⟩ => show 0 + 8 ≤ 8; omega

/-- A head's table out of four. -/
def tabH (w : FVec Ideal S4x32x8 .f32) (h : Nat) (hh : h < 4) : FVec Ideal S32x8 .f32 :=
  shapeCast S32x8 (extractStridedSlice S1x32x8 ![h, 0, 0] w (slices_h hh)) shapeCasts_S1x32x8_S32x8

/-- A query group's table of a head. -/
def tabQ (w : FVec Ideal S4x2x32x8 .f32) (h g : Nat) (hh : h < 4) (hg : g < 2) : FVec Ideal S32x8 .f32 :=
  shapeCast S32x8 (extractStridedSlice S1x1x32x8 ![h, g, 0, 0] w (slices_q hh hg)) shapeCasts_S1x1x32x8_S32x8

/-- Tokens through a table. -/
def proj (t : FVec Ideal S2048x8x32 .f32) (w : FVec Ideal S32x8 .f32) : FVec Ideal S2048x8x8 .f32 :=
  Host.dotGeneral dot_S2048x8x32_S32x8_S2048x8x8_2_0_01_1_n_n none t w

/-- A scalar at every pair of tokens. -/
def pairs (x : FVec Ideal S_ .f32) : FVec Ideal S2048x8x8 .f32 := broadcastInDim S2048x8x8 ![] bcast_S_S2048x8x8 x

/-- The queries' scores against the keys. -/
def scores (q k : FVec Ideal S2048x8x8 .f32) : FVec Ideal S2048x8x8 .f32 :=
  Host.dotGeneral dot_S2048x8x8_S2048x8x8_S2048x8x8_2_1_1_2_0_0 none q k

/-- The tokens three or more before a token. -/
def near : IVec S8x8 1 :=
  cmpi .sge (addi (iotaInDim S8x8 32 0) (broadcastInDim S8x8 ![] bcast_S_S8x8 (constantI S_ 32 4294967293#32))) (iotaInDim S8x8 32 1)

/-- A scalar at every pair of positions. -/
def square (x : FVec Ideal S_ .f32) : FVec Ideal S8x8 .f32 := broadcastInDim S8x8 ![] bcast_S_S8x8 x

/-- The positions masked off. -/
def maskSq : IVec S8x8 1 :=
  cmpf .oeq (select near (square (constant S_ .f32 0x3F800000#32)) (square zero)) (square (constant S_ .f32 0x3F800000#32))

/-- The pairs of tokens masked off. -/
def mask : IVec S2048x8x8 1 := broadcastInDim S2048x8x8 ![1, 2] bcast_S8x8_S2048x8x8_1_2 maskSq

/-- The masked scores of two query groups. -/
def masked (q0 q1 k : FVec Ideal S2048x8x8 .f32) : FVec Ideal S2048x8x8 .f32 :=
  select mask (pairs (constant S_ .f32 0xFF800000#32))
    (mulf (addf (addf (pairs zero) (scores q0 k)) (scores q1 k)) (pairs (constant S_ .f32 0x3EB504F3#32)))

/-- The exponentials of scores, the greatest of each row taken off. -/
def expd (s : FVec Ideal S2048x8x8 .f32) : FVec Ideal S2048x8x8 .f32 :=
  Host.exp (subf s (broadcastInDim S2048x8x8 ![0, 1, 2] bcast_S2048x8x1_S2048x8x8_0_1_2
    (broadcastInDim S2048x8x1 ![0, 1] bcast_S2048x8_S2048x8x1_0_1
      (maximumf (broadcastInDim S2048x8 ![] bcast_S_S2048x8 (constant S_ .f32 0xFF800000#32))
        (Host.reduce FloatOps.maximumf s (constant S_ .f32 0xFF800000#32) reducesTo_S2048x8x8_S2048x8_d2 h_S_)))))

/-- Rows divided by their sums. -/
def normd (e : FVec Ideal S2048x8x8 .f32) : FVec Ideal S2048x8x8 .f32 :=
  Host.divf e (broadcastInDim S2048x8x8 ![0, 1, 2] bcast_S2048x8x1_S2048x8x8_0_1_2
    (broadcastInDim S2048x8x1 ![0, 1] bcast_S2048x8_S2048x8x1_0_1
      (Host.reduceAdd e zero reducesTo_S2048x8x8_S2048x8_d2 h_S_)))

/-- A head of attention. -/
def headR (A : Args) (t : FVec Ideal S2048x8x32 .f32) (h : Nat) (hh : h < 4) : FVec Ideal S2048x8x8 .f32 :=
  scores (normd (expd (masked (proj t (tabQ A.qw h 0 hh (by decide))) (proj t (tabQ A.qw h 1 hh (by decide)))
    (proj t (tabH A.kw h hh))))) (proj t (tabH A.vw h hh))

/-- The heads beside each other. -/
def catR (A : Args) (t : FVec Ideal S2048x8x32 .f32) : FVec Ideal S2048x8x32 .f32 :=
  concatenate S2048x8x32 2 [⟨S2048x8x8, headR A t 0 (by decide)⟩, ⟨S2048x8x8, headR A t 1 (by decide)⟩,
    ⟨S2048x8x8, headR A t 2 (by decide)⟩, ⟨S2048x8x8, headR A t 3 (by decide)⟩]
    concatenates_S2048x8x8_S2048x8x8_S2048x8x8_S2048x8x8_S2048x8x32_d2

/-- The input after attention. -/
def xaR (A : Args) : FVec Ideal S2048x8x32 .f32 :=
  addf A.x (addf (Host.dotGeneral dot_S2048x8x32_S32x32_S2048x8x32_2_0_01_1_n_n none (catR A (lnR A.x A.g1 A.b1)) A.pw) (chan A.pb))

/-- The second normalization. -/
def t2R (A : Args) : FVec Ideal S2048x8x32 .f32 := lnR (xaR A) A.g2 A.b2

/-- The router's logits. -/
def logitsR (A : Args) : FVec Ideal S2048x8x8 .f32 :=
  addf (proj (t2R A) A.rw) (broadcastInDim S2048x8x8 ![0, 1, 2] bcast_S1x1x8_S2048x8x8_0_1_2
    (broadcastInDim S1x1x8 ![2] bcast_S8_S1x1x8_2 A.rb))

/-- The two greatest logits of each token. -/
def topV (L : FVec Ideal S2048x8x8 .f32) : FVec Ideal S2048x8x2 .f32 :=
  (Host.topK S2048x8x2 2 (FloatOps.cmpfTotal .gt) L sliceFits_S2048x8x8_S2048x8x2).1

/-- The experts of the two greatest logits of each token. -/
def topI (L : FVec Ideal S2048x8x8 .f32) : IVec S2048x8x2 32 :=
  (Host.topK S2048x8x2 2 (FloatOps.cmpfTotal .gt) L sliceFits_S2048x8x8_S2048x8x2).2

/-- A pair's numbers at every token. -/
def tokens (v : FVec Ideal S2048x2 .f32) : FVec Ideal S2048x8x2 .f32 :=
  broadcastInDim S2048x8x2 ![0, 1, 2] bcast_S2048x1x2_S2048x8x2_0_1_2 (broadcastInDim S2048x1x2 ![0, 2] bcast_S2048x2_S2048x1x2_0_2 v)

/-- The exponentials over the tokens, the greatest taken off. -/
def tokExp (v : FVec Ideal S2048x8x2 .f32) : FVec Ideal S2048x8x2 .f32 :=
  Host.exp (subf v (tokens (maximumf (broadcastInDim S2048x2 ![] bcast_S_S2048x2 (constant S_ .f32 0xFF800000#32))
    (Host.reduce FloatOps.maximumf v (constant S_ .f32 0xFF800000#32) reducesTo_S2048x8x2_S2048x2_d1 h_S_))))

/-- Columns divided by their sums over the tokens. -/
def tokNorm (e : FVec Ideal S2048x8x2 .f32) : FVec Ideal S2048x8x2 .f32 :=
  Host.divf e (tokens (Host.reduceAdd e zero reducesTo_S2048x8x2_S2048x2_d1 h_S_))

/-- The weight of expert `e` at each token. -/
def wtR (I : IVec S2048x8x2 32) (S : FVec Ideal S2048x8x2 .f32) (e : BitVec 32) : FVec Ideal S2048x8 .f32 :=
  Host.reduceAdd (select (cmpi .eq I (broadcastInDim S2048x8x2 ![] bcast_S_S2048x8x2 (constantI S_ 32 e))) S
    (broadcastInDim S2048x8x2 ![] bcast_S_S2048x8x2 zero)) zero reducesTo_S2048x8x2_S2048x8_d2 h_S_

theorem slices_3 {a b e : Nat} (he : e < 8) : (⟨3, ![8, a, b]⟩ : Shape).Slices ![e, 0, 0] ⟨3, ![1, a, b]⟩ := by
  refine ⟨rfl, fun k => ?_⟩
  match k with
  | ⟨0, _⟩ => show e + 1 ≤ 8; omega
  | ⟨1, _⟩ => show 0 + a ≤ a; omega
  | ⟨2, _⟩ => show 0 + b ≤ b; omega

theorem slices_2 {a e : Nat} (he : e < 8) : (⟨2, ![8, a]⟩ : Shape).Slices ![e, 0] ⟨2, ![1, a]⟩ := by
  refine ⟨rfl, fun k => ?_⟩
  match k with
  | ⟨0, _⟩ => show e + 1 ≤ 8; omega
  | ⟨1, _⟩ => show 0 + a ≤ a; omega

theorem slices_1 {e : Nat} (he : e < 8) : (⟨1, ![8]⟩ : Shape).Slices ![e] ⟨1, ![1]⟩ := by
  refine ⟨rfl, fun k => ?_⟩
  match k with
  | ⟨0, _⟩ => show e + 1 ≤ 8; omega

/-- An expert's vector of hidden size. -/
def vecE (b : FVec Ideal S8x128 .f32) (e : Nat) (he : e < 8) : FVec Ideal S2048x8x128 .f32 :=
  broadcastInDim S2048x8x128 ![0, 1, 2] bcast_S1x1x128_S2048x8x128_0_1_2 (broadcastInDim S1x1x128 ![2] bcast_S128_S1x1x128_2
    (shapeCast S128 (extractStridedSlice S1x128 ![e, 0] b (slices_2 he)) shapeCasts_S1x128_S128))

/-- An expert's hidden layer. -/
def hidR (A : Args) (v : FVec Ideal S2048x8x32 .f32) (e : Nat) (he : e < 8) : FVec Ideal S2048x8x128 .f32 :=
  addf (Host.dotGeneral dot_S2048x8x32_S32x128_S2048x8x128_2_0_01_1_n_n none v
    (shapeCast S32x128 (extractStridedSlice S1x32x128 ![e, 0, 0] A.ew1 (slices_3 he)) shapeCasts_S1x32x128_S32x128))
    (vecE A.eb1 e he)

/-- A square layer of an expert. -/
def sqR (w : FVec Ideal S8x128x128 .f32) (b : FVec Ideal S8x128 .f32) (h : FVec Ideal S2048x8x128 .f32) (e : Nat) (he : e < 8) :
    FVec Ideal S2048x8x128 .f32 :=
  addf (Host.dotGeneral dot_S2048x8x128_S128x128_S2048x8x128_2_0_01_1_n_n none h
    (shapeCast S128x128 (extractStridedSlice S1x128x128 ![e, 0, 0] w (slices_3 he)) shapeCasts_S1x128x128_S128x128))
    (vecE b e he)

/-- One at every hidden unit. -/
def ones : FVec Ideal S2048x8x128 .f32 := broadcastInDim S2048x8x128 ![] bcast_S_S2048x8x128 (constant S_ .f32 0x3F800000#32)

/-- The swish of an expert's gate argument. -/
def swish (A : Args) (s : FVec Ideal S2048x8x128 .f32) (e : Nat) (he : e < 8) : FVec Ideal S2048x8x128 .f32 :=
  mulf s (Host.divf ones (addf ones (Host.exp (Host.negf (mulf (broadcastInDim S2048x8x128 ![] bcast_S_S2048x8x128
    (shapeCast S_ (extractStridedSlice S1 ![e] A.ebeta (slices_1 he)) shapeCasts_S1_S_)) s)))))

/-- An expert's output. -/
def expertR (A : Args) (v : FVec Ideal S2048x8x32 .f32) (e : Nat) (he : e < 8) : FVec Ideal S2048x8x32 .f32 :=
  addf (Host.dotGeneral dot_S2048x8x128_S128x32_S2048x8x32_2_0_01_1_n_n none
    (mulf (swish A (sqR A.esw A.esb (hidR A v e he) e he) e he) (sqR A.egw A.egb (hidR A v e he) e he))
    (shapeCast S128x32 (extractStridedSlice S1x128x32 ![e, 0, 0] A.ew2 (slices_3 he)) shapeCasts_S1x128x32_S128x32))
    (chan (shapeCast S32 (extractStridedSlice S1x32 ![e, 0] A.eb2 (slices_2 he)) shapeCasts_S1x32_S32))

/-- An expert's weighted output. -/
def moeR (A : Args) (v : FVec Ideal S2048x8x32 .f32) (I : IVec S2048x8x2 32) (S : FVec Ideal S2048x8x2 .f32) (e : Nat)
    (he : e < 8) : FVec Ideal S2048x8x32 .f32 :=
  mulf (wide (broadcastInDim S2048x8x1 ![0, 1] bcast_S2048x8_S2048x8x1_0_1 (wtR I S (BitVec.ofNat 32 e)))) (expertR A v e he)

/-- The experts' weighted outputs added up. -/
def mixR (A : Args) (v : FVec Ideal S2048x8x32 .f32) (I : IVec S2048x8x2 32) (S : FVec Ideal S2048x8x2 .f32) :
    FVec Ideal S2048x8x32 .f32 :=
  addf (addf (addf (addf (addf (addf (addf (addf (broadcastInDim S2048x8x32 ![] bcast_S_S2048x8x32 zero)
    (moeR A v I S 0 (by decide))) (moeR A v I S 1 (by decide))) (moeR A v I S 2 (by decide))) (moeR A v I S 3 (by decide)))
    (moeR A v I S 4 (by decide))) (moeR A v I S 5 (by decide))) (moeR A v I S 6 (by decide))) (moeR A v I S 7 (by decide))

/-- The reference's output. -/
def outR (A : Args) : FVec Ideal S2048x8x32 .f32 :=
  addf (xaR A) (mixR A (t2R A) (topI (logitsR A)) (tokNorm (tokExp (topV (logitsR A)))))

variable (A : Args)

theorem v17_eq : val_main_v17 (F := Ideal) A.x A.g1 A.b1 = lnR A.x A.g1 A.b1 := rfl

theorem v161_eq : val_main_v161 (F := Ideal) A.x A.g1 A.b1 A.kw A.qw A.vw A.pw A.pb = xaR A := rfl

theorem v179_eq : val_main_v179 (F := Ideal) A.x A.g1 A.b1 A.g2 A.b2 A.kw A.qw A.vw A.pw A.pb = t2R A := rfl

/-- What the reference computes. -/
theorem v612_eq : val_main_v612 (F := Ideal) A.x A.g1 A.b1 A.g2 A.b2 A.kw A.qw A.vw A.pw A.pb A.rw A.rb A.ew1 A.eb1 A.esw
    A.esb A.ebeta A.egw A.egb A.ew2 A.eb2 = outR A := rfl

end Cert.Block.R
-- ==== Proof.RRead.lean ====
/- The reference's normalization and attention at the ideal instance, read at an index, over real arguments. -/
module

public import proofs.«01_k».proof.Proof.ROps
public import proofs.«01_k».proof.Proof.Arith
public import proofs.«01_k».proof.Proof.Consts
public import Idealize.ShloMosaic.Lib.IdealHost
public import Idealize.ShloMosaic.Lib.Pointwise.Tactic
public import Idealize.ShloMosaic.Lib.Pointwise.Reshape
public import Idealize.ShloMosaic.Lib.Pointwise.Reduce
public import Idealize.ShloMosaic.Lib.Pointwise.Contract

@[expose] public section

set_option maxRecDepth 16384

noncomputable section

namespace Cert.Block.R

open Idealize.ShloMosaic Cert.ReferenceIdeal Cert.ReferenceIdeal.Gen

theorem chan_apply (v : FVec Ideal S32 .f32) (n : Fin 2048) (i : Fin 8) (d : Fin 32) : chan v (ix3 n i d) = v (ix1 d) := by
  unfold chan
  pointwise

theorem wide_apply (v : FVec Ideal S2048x8x1 .f32) (n : Fin 2048) (i : Fin 8) (d : Fin 32) :
    wide v (ix3 n i d) = v (ix3 n i 0) := by
  unfold wide
  pointwise

theorem total_apply (v : FVec Ideal S2048x8x32 .f32) (n : Fin 2048) (i : Fin 8) :
    total v (ix3 n i 0) = ∑ d, v (ix3 n i d) := by
  unfold total zero
  pointwise

/-- The variance divides by 31. -/
theorem n31_apply : n31 ix0 = ((31 : ℝ) : EReal) := by
  unfold n31 n32
  pointwise [ofBits_32]
  show ((32 : ℝ) : EReal) - ((((1#32 : BitVec 32).toInt : ℤ) : ℝ) : EReal) = _
  rw [← EReal.coe_sub]
  norm_num

theorem lnMean_apply (v : FVec Ideal S2048x8x32 .f32) (a : Fin 32 → ℝ) (n : Fin 2048) (i : Fin 8)
    (hv : ∀ d, v (ix3 n i d) = ((a d : ℝ) : EReal)) : lnMean v (ix3 n i 0) = ((mean a : ℝ) : EReal) := by
  unfold lnMean n32
  pointwise [total_apply, hv, ofBits_32]
  rw [sum_coe, div_real _ _ (by norm_num)]
  rfl

theorem lnVar_apply (v : FVec Ideal S2048x8x32 .f32) (a : Fin 32 → ℝ) (n : Fin 2048) (i : Fin 8)
    (hv : ∀ d, v (ix3 n i d) = ((a d : ℝ) : EReal)) : lnVar v (ix3 n i 0) = ((var a : ℝ) : EReal) := by
  have hc : ∀ d, v (ix3 n i d) - lnMean v (ix3 n i 0) = ((a d - mean a : ℝ) : EReal) := by
    intro d
    rw [hv, lnMean_apply v a n i hv, EReal.coe_sub]
  unfold lnVar
  pointwise [total_apply, wide_apply, n31_apply, hc, zero]
  have h : FloatOps.cmpf (F := Ideal) (φ := .f32) CmpFPredicate.ogt ((31 : ℝ) : EReal) (0 : EReal) = 1#1 := by
    simp [FloatOps.cmpf, Ideal.cmp]
  rw [h, sum_mul_coe (fun _ => rfl) (fun _ => rfl), div_real _ _ (by norm_num)]
  rfl

/-- The reference's normalization is the normalization over the reals. -/
theorem lnR_apply (v : FVec Ideal S2048x8x32 .f32) (g b : FVec Ideal S32 .f32) (a gr br : Fin 32 → ℝ) (n : Fin 2048)
    (i : Fin 8) (hv : ∀ d, v (ix3 n i d) = ((a d : ℝ) : EReal)) (hg : ∀ d, g (ix1 d) = ((gr d : ℝ) : EReal))
    (hb : ∀ d, b (ix1 d) = ((br d : ℝ) : EReal)) (d : Fin 32) :
    lnR v g b (ix3 n i d) = ((ln gr br a d : ℝ) : EReal) := by
  unfold lnR
  pointwise [chan_apply, wide_apply, hg, hb, lnVar_apply v a n i hv, hv, lnMean_apply v a n i hv, ofBits_eps]
  rw [← EReal.coe_sub, ← EReal.coe_add]
  exact ln_sqrt gr br a d

theorem tabH_apply (w : FVec Ideal S4x32x8 .f32) (h : Nat) (hh : h < 4) (d : Fin 32) (c : Fin 8) :
    tabH w h hh (ix2 d c) = w (ix3 ⟨h, hh⟩ d c) := by
  unfold tabH
  pointwise

theorem tabQ_apply (w : FVec Ideal S4x2x32x8 .f32) (h g : Nat) (hh : h < 4) (hg : g < 2) (d : Fin 32) (c : Fin 8) :
    tabQ w h g hh hg (ix2 d c) = w (ix4 ⟨h, hh⟩ ⟨g, hg⟩ d c) := by
  unfold tabQ
  pointwise

theorem proj_apply (t : FVec Ideal S2048x8x32 .f32) (w : FVec Ideal S32x8 .f32) (n : Fin 2048) (i c : Fin 8) :
    proj t w (ix3 n i c) = ∑ d, t (ix3 n i d) * w (ix2 d c) := by
  unfold proj
  pointwise

theorem scores_apply (q k : FVec Ideal S2048x8x8 .f32) (n : Fin 2048) (i j : Fin 8) :
    scores q k (ix3 n i j) = ∑ c, q (ix3 n i c) * k (ix3 n c j) := by
  unfold scores
  pointwise

theorem near_apply (i j : Fin 8) : near (ix2 i j) = if j.val + 3 ≤ i.val then 1#1 else 0#1 := by
  revert i j; decide +kernel

theorem square_apply (x : FVec Ideal S_ .f32) (i j : Fin 8) : square x (ix2 i j) = x ix0 := by
  unfold square
  pointwise

theorem one_apply (i j : Fin 8) : square (constant S_ .f32 0x3F800000#32) (ix2 i j) = (1 : EReal) := by
  rw [square_apply]
  exact Ideal.ofBits_one_f32

theorem zero_apply (i j : Fin 8) : square zero (ix2 i j) = (0 : EReal) := by
  rw [square_apply]
  exact Ideal.ofBits_zero .f32

theorem cmp_one (b : BitVec 1) :
    FloatOps.cmpf (F := Ideal) (φ := .f32) .oeq (Scalar.select b (1 : EReal) (0 : EReal)) (1 : EReal) = b := by
  have h : b = 0#1 ∨ b = 1#1 := by revert b; decide
  rcases h with rfl | rfl <;> simp [Scalar.select, FloatOps.cmpf, Ideal.cmp]

theorem maskSq_apply (i j : Fin 8) : maskSq (ix2 i j) = if j.val + 3 ≤ i.val then 1#1 else 0#1 := by
  unfold maskSq
  rw [ValueIdx.cmpf_apply, ValueIdx.select_apply, one_apply, zero_apply, cmp_one, near_apply]

/-- The mask is set on the tokens three or more before a token. -/
theorem mask_apply (n : Fin 2048) (i j : Fin 8) : mask (ix3 n i j) = if j.val + 3 ≤ i.val then 1#1 else 0#1 := by
  rw [← maskSq_apply]
  unfold mask
  pointwise

theorem masked_apply (q0 q1 k : FVec Ideal S2048x8x8 .f32) (n : Fin 2048) (i j : Fin 8) (s0 s1 : ℝ)
    (h0 : scores q0 k (ix3 n i j) = ((s0 : ℝ) : EReal)) (h1 : scores q1 k (ix3 n i j) = ((s1 : ℝ) : EReal)) :
    masked q0 q1 k (ix3 n i j) = if j.val + 3 ≤ i.val then (⊥ : EReal) else (((s0 + s1) * scale : ℝ) : EReal) := by
  unfold masked pairs zero
  pointwise [mask_apply, h0, h1, ofBits_scale, ofBits_bot]
  split
  · rfl
  · rw [EReal.coe_mul, EReal.coe_add]; rfl

theorem expd_apply (s : FVec Ideal S2048x8x8 .f32) (n : Fin 2048) (i j : Fin 8) :
    expd s (ix3 n i j) = Ideal.exp (s (ix3 n i j) - Finset.fold max ⊥ (fun k => s (ix3 n i k)) Finset.univ) := by
  unfold expd
  pointwise [ofBits_bot]
  rw [max_eq_right bot_le]

theorem normd_apply (s : FVec Ideal S2048x8x8 .f32) (n : Fin 2048) (i j : Fin 8) :
    normd s (ix3 n i j) = Ideal.div (s (ix3 n i j)) (∑ k, s (ix3 n i k)) := by
  unfold normd zero
  pointwise

/-- The attention weights of the reference, over scores of reals. -/
theorem weights_apply (q0 q1 k : FVec Ideal S2048x8x8 .f32) (n : Fin 2048) (i : Fin 8) (s0 s1 S : Fin 8 → ℝ)
    (h0 : ∀ j, scores q0 k (ix3 n i j) = ((s0 j : ℝ) : EReal)) (h1 : ∀ j, scores q1 k (ix3 n i j) = ((s1 j : ℝ) : EReal))
    (hS : ∀ j, S j = (s0 j + s1 j) * scale) (j : Fin 8) :
    normd (expd (masked q0 q1 k)) (ix3 n i j) = ((soft (fun j : Fin 8 => j.val + 3 ≤ i.val) S j : ℝ) : EReal) := by
  have hm : ∀ j, masked q0 q1 k (ix3 n i j) = if j.val + 3 ≤ i.val then (⊥ : EReal) else ((S j : ℝ) : EReal) := by
    intro j
    rw [hS, masked_apply q0 q1 k n i j _ _ (h0 j) (h1 j)]
  rw [normd_apply]
  simp only [expd_apply]
  exact soft_run (fun j : Fin 8 => j.val + 3 ≤ i.val) S ⟨i, by omega⟩ (fun j => masked q0 q1 k (ix3 n i j)) hm j

section
variable (A : Args) (W : Wts) (X : Fin 8 → Fin 32 → ℝ) (n : Fin 2048) (t : FVec Ideal S2048x8x32 .f32)
  (ht : ∀ i d, t (ix3 n i d) = ((t1 W X i d : ℝ) : EReal))
include ht

theorem projR_apply (w : FVec Ideal S32x8 .f32) (a : Fin 32 → Fin 8 → ℝ) (hw : ∀ d c, w (ix2 d c) = ((a d c : ℝ) : EReal))
    (i c : Fin 8) : proj t w (ix3 n i c) = ((∑ d, t1 W X i d * a d c : ℝ) : EReal) := by
  rw [proj_apply]
  exact sum_mul_coe (fun d => ht i d) (fun d => hw d c)

/-- The output of a head of the reference. -/
theorem headR_apply (h : Nat) (hh : h < 4) (hk : ∀ d c, A.kw (ix3 ⟨h, hh⟩ d c) = ((W.kw ⟨h, hh⟩ d c : ℝ) : EReal))
    (hq : ∀ g d c, A.qw (ix4 ⟨h, hh⟩ g d c) = ((W.qw ⟨h, hh⟩ g d c : ℝ) : EReal))
    (hv : ∀ d c, A.vw (ix3 ⟨h, hh⟩ d c) = ((W.vw ⟨h, hh⟩ d c : ℝ) : EReal)) (i c : Fin 8) :
    headR A t h hh (ix3 n i c) = ((Block.head W X ⟨h, hh⟩ i c : ℝ) : EReal) := by
  have K := projR_apply W X n t ht (tabH A.kw h hh) (W.kw ⟨h, hh⟩) (fun d c => (tabH_apply ..).trans (hk d c))
  have V := projR_apply W X n t ht (tabH A.vw h hh) (W.vw ⟨h, hh⟩) (fun d c => (tabH_apply ..).trans (hv d c))
  have Q0 := projR_apply W X n t ht (tabQ A.qw h 0 hh (by decide)) (W.qw ⟨h, hh⟩ 0)
    (fun d c => (tabQ_apply ..).trans (hq 0 d c))
  have Q1 := projR_apply W X n t ht (tabQ A.qw h 1 hh (by decide)) (W.qw ⟨h, hh⟩ 1)
    (fun d c => (tabQ_apply ..).trans (hq 1 d c))
  unfold headR
  rw [scores_apply]
  refine sum_mul_coe (weights_apply _ _ _ n i
    (fun j => ∑ c, (∑ d, t1 W X i d * W.qw ⟨h, hh⟩ 0 d c) * key W X ⟨h, hh⟩ c j)
    (fun j => ∑ c, (∑ d, t1 W X i d * W.qw ⟨h, hh⟩ 1 d c) * key W X ⟨h, hh⟩ c j)
    (Block.score (qry W X ⟨h, hh⟩) (key W X ⟨h, hh⟩) i) (fun j => ?_) (fun j => ?_)
    (fun j => score_split W X ⟨h, hh⟩ i j)) (fun j => V j c)
  · rw [scores_apply]
    exact sum_mul_coe (fun c => Q0 i c) (fun c => K c j)
  · rw [scores_apply]
    exact sum_mul_coe (fun c => Q1 i c) (fun c => K c j)

end

/-- The heads side by side: channel `d` is channel `d % 8` of head `d / 8`. -/
theorem catR_apply (A : Args) (t : FVec Ideal S2048x8x32 .f32) (n : Fin 2048) (i : Fin 8) (d : Fin 32) :
    catR A t (ix3 n i d) = headR A t (d.val / 8) (by omega) (ix3 n i ⟨d.val % 8, by omega⟩) :=
  concatenate_ofFn_apply (t := S2048x8x32) (s₁ := S2048x8x8) 2 (fun k : Fin 4 => headR A t k.val k.isLt)
    concatenates_S2048x8x8_S2048x8x8_S2048x8x8_S2048x8x8_S2048x8x32_d2 rfl 8 rfl (ix3 n i d) ⟨d.val / 8, by omega⟩ rfl
    (ix3 n i ⟨d.val % 8, by omega⟩) rfl (fun b hb => by
      match b with
      | ⟨0, _⟩ => rfl
      | ⟨1, _⟩ => rfl
      | ⟨2, _⟩ => exact absurd rfl hb)

theorem attn_apply (c : FVec Ideal S2048x8x32 .f32) (w : FVec Ideal S32x32 .f32) (n : Fin 2048) (i : Fin 8) (d : Fin 32) :
    (Host.dotGeneral dot_S2048x8x32_S32x32_S2048x8x32_2_0_01_1_n_n none c w : FVec Ideal S2048x8x32 .f32) (ix3 n i d)
      = ∑ k, c (ix3 n i k) * w (ix2 k d) := by
  pointwise

variable (A : Args) (hA : A.Reals)
include hA

/-- The reference's rows after attention. -/
theorem xaR_apply (n : Fin 2048) (i : Fin 8) (d : Fin 32) : xaR A (ix3 n i d) = ((xa A.wts (A.row n) i d : ℝ) : EReal) := by
  have ht : ∀ i d, lnR A.x A.g1 A.b1 (ix3 n i d) = ((t1 A.wts (A.row n) i d : ℝ) : EReal) := fun i d =>
    lnR_apply A.x A.g1 A.b1 (A.row n i) A.wts.g1 A.wts.b1 n i (fun d => hA.x _) (fun d => hA.g1 _) (fun d => hA.b1 _) d
  have hc : ∀ k, catR A (lnR A.x A.g1 A.b1) (ix3 n i k) = ((cat A.wts (A.row n) i k : ℝ) : EReal) := fun k =>
    (catR_apply A _ n i k).trans (headR_apply A A.wts (A.row n) n _ ht (k.val / 8) (by omega) (fun d c => hA.kw _)
      (fun g d c => hA.qw _) (fun d c => hA.vw _) i ⟨k.val % 8, by omega⟩)
  unfold xaR
  show A.x (ix3 n i d) + ((Host.dotGeneral dot_S2048x8x32_S32x32_S2048x8x32_2_0_01_1_n_n none (catR A (lnR A.x A.g1 A.b1)) A.pw :
    FVec Ideal S2048x8x32 .f32) (ix3 n i d) + chan A.pb (ix3 n i d)) = _
  rw [attn_apply, chan_apply, sum_mul_coe hc (fun k => hA.pw _), hA.x, hA.pb, ← EReal.coe_add, ← EReal.coe_add]
  rfl

/-- The reference's second normalization. -/
theorem t2R_apply (n : Fin 2048) (i : Fin 8) (d : Fin 32) : t2R A (ix3 n i d) = ((t2 A.wts (A.row n) i d : ℝ) : EReal) :=
  lnR_apply (xaR A) A.g2 A.b2 (xa A.wts (A.row n) i) A.wts.g2 A.wts.b2 n i (fun d => xaR_apply A hA n i d) (fun d => hA.g2 _)
    (fun d => hA.b2 _) d

/-- The reference's logits. -/
theorem logitsR_apply (n : Fin 2048) (i e : Fin 8) : logitsR A (ix3 n i e) = ((logit A.wts (A.row n) i e : ℝ) : EReal) := by
  unfold logitsR
  pointwise [proj_apply]
  rw [sum_mul_coe (fun d => t2R_apply A hA n i d) (fun d => hA.rw _), hA.rb, ← EReal.coe_add]
  rfl

end Cert.Block.R
-- ==== Proof.RRank.lean ====
/- The two places a stable descending sort of eight reals puts first: the two places the block ranks first. -/
module

public import proofs.«01_k».proof.Proof.Model
public import Idealize.ShloMosaic.Lib.SortFacts
public import Idealize.ShloMosaic.PureOps.Ideal.Laws

@[expose] public section

noncomputable section

namespace Cert.Block.R

open Idealize.ShloMosaic

/-- Greater, or equal and earlier. -/
def ahead {n : Nat} (L : Fin n → ℝ) (a b : Fin n) : Bool := decide (L b < L a ∨ (L b = L a ∧ a < b))

/-- A stable sort of places in ascending order goes by `ahead`. -/
theorem stable_ahead {n : Nat} (L : Fin n → ℝ) (l : List (Fin n)) (hl : l.Pairwise (· < ·)) :
    stableSort (fun a b => decide (L b < L a)) l = stableSort (ahead L) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    unfold ahead
    congr 1
    exact propext ⟨Or.inl, fun h => h.resolve_right fun h => absurd hab h.2.asymm⟩

theorem sorted_ahead {n : Nat} (L : Fin n → ℝ) : sortedFrom (fun a b => decide (L b < L a)) = sortedFrom (ahead L) := by
  have h : sortPositions n (fun a b => decide (L b < L a)) = sortPositions n (ahead L) :=
    stable_ahead L _ (List.pairwise_lt_finRange n)
  funext k
  unfold sortedFrom
  rw [List.get_of_eq h]
  rfl

/-- No place is ahead of one sorted before it. -/
theorem ahead_sorted {n : Nat} (L : Fin n → ℝ) (i j : Fin n) (hij : i < j) :
    ahead L (sortedFrom (ahead L) j) (sortedFrom (ahead L) i) = false := by
  refine sortedFrom_noInversion (ahead L) (ahead L) ?_ (fun _ _ h => h) ?_ i j hij
  · intro a b h
    unfold ahead at h ⊢
    simp only [decide_eq_true_eq, decide_eq_false_iff_not, not_or, not_and, not_lt] at h ⊢
    rcases h with h | h
    · exact ⟨h.le, fun e => absurd e h.ne'⟩
    · exact ⟨h.1.le, fun _ => h.2.le⟩
  · intro a b c hab hbc
    unfold ahead at *
    simp only [decide_eq_false_iff_not, not_or, not_and, not_lt] at *
    refine ⟨hab.1.trans hbc.1, fun e => ?_⟩
    have e1 : L b = L a := le_antisymm (e ▸ hbc.1) hab.1
    have e2 : L c = L b := e.trans e1.symm
    exact (hbc.2 e2).trans (hab.2 e1)

theorem top_of_not_ahead {L : Fin 8 → ℝ} {a e : Fin 8} (h : ahead L e a = false) : L e ≤ L a ∧ (L e = L a → a ≤ e) := by
  unfold ahead at h
  simp only [decide_eq_false_iff_not, not_or, not_and, not_lt] at h
  exact ⟨h.1, fun he => h.2 he.symm⟩

/-- The place sorted first is the one ranked first. -/
theorem sorted_top1 (L : Fin 8 → ℝ) : sortedFrom (ahead L) 0 = top1 L := by
  refine IsTop.unique ⟨trivial, fun e _ => ?_⟩ (top1_spec L)
  obtain ⟨j, rfl⟩ := sortedFrom_surjective (ahead L) e
  rcases eq_or_ne j 0 with rfl | hj
  · exact ⟨le_rfl, fun _ => le_rfl⟩
  · exact top_of_not_ahead (ahead_sorted L 0 j (Fin.pos_iff_ne_zero.mpr hj))

/-- The place sorted second is the one ranked second. -/
theorem sorted_top2 (L : Fin 8 → ℝ) : sortedFrom (ahead L) 1 = top2 L := by
  refine IsTop.unique ⟨?_, fun e he => ?_⟩ (top2_spec L)
  · rw [← sorted_top1]
    exact fun h => absurd (sortedFrom_injective _ h) (by decide)
  · obtain ⟨j, rfl⟩ := sortedFrom_surjective (ahead L) e
    rcases eq_or_ne j 1 with rfl | hj
    · exact ⟨le_rfl, fun _ => le_rfl⟩
    · have h0 : j ≠ 0 := fun h => he (by rw [h, sorted_top1])
      exact top_of_not_ahead (ahead_sorted L 1 j (by omega))

/-- The order a list of extended reals is sorted in, greatest first. -/
def rank (f : Fin 8 → EReal) : Fin 8 → Fin 8 :=
  sortedFrom fun k k' => FloatOps.cmpfTotal (F := Ideal) (φ := .f32) .gt (f k) (f k') == 1#1

theorem rank_real (L : Fin 8 → ℝ) (f : Fin 8 → EReal) (hf : ∀ e, f e = ((L e : ℝ) : EReal)) : rank f = sortedFrom (ahead L) := by
  rw [← sorted_ahead]
  unfold rank
  congr 1
  funext a b
  rw [hf, hf, Ideal.cmpfTotal_def]
  by_cases h : L b < L a <;> simp [Ideal.cmp, CmpDirection.ordered, h]

end Cert.Block.R
-- ==== Proof.RRouter.lean ====
/- The reference's router and experts at the ideal instance, read at an index, over real arguments; and its output. -/
module

public import proofs.«01_k».proof.Proof.RRead
public import proofs.«01_k».proof.Proof.RRank

@[expose] public section

set_option maxRecDepth 16384

noncomputable section

namespace Cert.Block.R

open Idealize.ShloMosaic Cert.ReferenceIdeal Cert.ReferenceIdeal.Gen

theorem along_apply (n : Fin 2048) (i e k : Fin 8) :
    Shape.Idx.along (s := S2048x8x8) (ix3 n i e) (2 : Fin 3) k = ix3 n i k := by
  funext a
  match a with
  | ⟨0, _⟩ => rfl
  | ⟨1, _⟩ => rfl
  | ⟨2, _⟩ => rfl

theorem sort_fst (L : FVec Ideal S2048x8x8 .f32) (I : IVec S2048x8x8 32) (n : Fin 2048) (i e : Fin 8) :
    (Host.sort2 S2048x8x8 2 (fun l r => FloatOps.cmpfTotal .gt l.1 r.1) L I).1 (ix3 n i e)
      = L (ix3 n i (rank (fun k => L (ix3 n i k)) e)) := by
  show L (Shape.Idx.along (s := S2048x8x8) (ix3 n i e) (2 : Fin 3)
    (rank (fun k => L (Shape.Idx.along (s := S2048x8x8) (ix3 n i e) (2 : Fin 3) k)) e)) = _
  rw [along_apply]
  exact congrArg (fun f => L (ix3 n i (rank f e))) (funext fun k => congrArg L (along_apply n i e k))

theorem sort_snd (L : FVec Ideal S2048x8x8 .f32) (I : IVec S2048x8x8 32) (n : Fin 2048) (i e : Fin 8) :
    (Host.sort2 S2048x8x8 2 (fun l r => FloatOps.cmpfTotal .gt l.1 r.1) L I).2 (ix3 n i e)
      = I (ix3 n i (rank (fun k => L (ix3 n i k)) e)) := by
  show I (Shape.Idx.along (s := S2048x8x8) (ix3 n i e) (2 : Fin 3)
    (rank (fun k => L (Shape.Idx.along (s := S2048x8x8) (ix3 n i e) (2 : Fin 3) k)) e)) = _
  rw [along_apply]
  exact congrArg (fun f => I (ix3 n i (rank f e))) (funext fun k => congrArg L (along_apply n i e k))

theorem slice_apply {α : Type} (x : S2048x8x8.Idx → α) (h : S2048x8x8.Slices (fun _ => 0) S2048x8x2) (n : Fin 2048) (i : Fin 8)
    (r : Fin 2) : extractStridedSlice S2048x8x2 (fun _ => 0) x h (ix3 n i r) = x (ix3 n i ⟨r.val, by omega⟩) := by
  refine extractStridedSlice_apply _ x h (ix3 n i r) _ fun a => ?_
  match a with
  | ⟨0, _⟩ => exact (Nat.zero_add _).symm
  | ⟨1, _⟩ => exact (Nat.zero_add _).symm
  | ⟨2, _⟩ => exact (Nat.zero_add _).symm

/-- Each logit's expert. -/
def places : IVec S2048x8x8 32 := fun i => if hd : 2 < S2048x8x8.rank then iotaInDim S2048x8x8 32 ⟨2, hd⟩ i else 0#32

theorem places_apply (n : Fin 2048) (i e : Fin 8) : places (ix3 n i e) = BitVec.ofNat 32 e.val := by
  unfold places
  rw [dif_pos (by decide)]
  rfl

theorem topV_apply (L : FVec Ideal S2048x8x8 .f32) (n : Fin 2048) (i : Fin 8) (r : Fin 2) :
    topV L (ix3 n i r) = L (ix3 n i (rank (fun e => L (ix3 n i e)) ⟨r.val, by omega⟩)) :=
  (slice_apply (Host.sort2 S2048x8x8 2 (fun l r => FloatOps.cmpfTotal .gt l.1 r.1) L places).1
    sliceFits_S2048x8x8_S2048x8x2 n i r).trans (sort_fst L places n i _)

theorem topI_apply (L : FVec Ideal S2048x8x8 .f32) (n : Fin 2048) (i : Fin 8) (r : Fin 2) :
    topI L (ix3 n i r) = BitVec.ofNat 32 (rank (fun e => L (ix3 n i e)) ⟨r.val, by omega⟩).val :=
  (slice_apply (Host.sort2 S2048x8x8 2 (fun l r => FloatOps.cmpfTotal .gt l.1 r.1) L places).2
    sliceFits_S2048x8x8_S2048x8x2 n i r).trans ((sort_snd L places n i _).trans (places_apply n i _))

theorem tokExp_apply (v : FVec Ideal S2048x8x2 .f32) (n : Fin 2048) (i : Fin 8) (r : Fin 2) :
    tokExp v (ix3 n i r) = Ideal.exp (v (ix3 n i r) - Finset.fold max ⊥ (fun k => v (ix3 n k r)) Finset.univ) := by
  unfold tokExp tokens
  pointwise [ofBits_bot]
  rw [max_eq_right bot_le]

theorem tokNorm_apply (v : FVec Ideal S2048x8x2 .f32) (n : Fin 2048) (i : Fin 8) (r : Fin 2) :
    tokNorm v (ix3 n i r) = Ideal.div (v (ix3 n i r)) (∑ k, v (ix3 n k r)) := by
  unfold tokNorm tokens zero
  pointwise

/-- A column of reals softened over the tokens. -/
theorem tokSoft_apply (v : FVec Ideal S2048x8x2 .f32) (n : Fin 2048) (r : Fin 2) (S : Fin 8 → ℝ)
    (hv : ∀ k, v (ix3 n k r) = ((S k : ℝ) : EReal)) (i : Fin 8) :
    tokNorm (tokExp v) (ix3 n i r) = ((soft (fun _ => False) S i : ℝ) : EReal) := by
  rw [tokNorm_apply]
  simp only [tokExp_apply]
  exact soft_run_all S (fun k => v (ix3 n k r)) hv i

theorem pick_apply (a e : Fin 8) (x y : EReal) :
    Scalar.select (IntOp.cmpi .eq (BitVec.ofNat 32 a.val) (BitVec.ofNat 32 e.val)) x y = if a = e then x else y := by
  have h : ∀ a e : Fin 8, IntOp.cmpi .eq (BitVec.ofNat 32 a.val) (BitVec.ofNat 32 e.val) = if a = e then 1#1 else 0#1 := by
    decide +kernel
  rw [h]
  by_cases he : a = e <;> simp [he, Scalar.select]

/-- The weight of an expert from the two ranked places and their softened weights. -/
theorem wtR_apply (I : IVec S2048x8x2 32) (S : FVec Ideal S2048x8x2 .f32) (e : Fin 8) (n : Fin 2048) (i : Fin 8)
    (a : Fin 2 → Fin 8) (s : Fin 2 → ℝ) (hI : ∀ r, I (ix3 n i r) = BitVec.ofNat 32 (a r).val)
    (hS : ∀ r, S (ix3 n i r) = ((s r : ℝ) : EReal)) :
    wtR I S (BitVec.ofNat 32 e.val) (ix2 n i) = (((if a 0 = e then s 0 else 0) + (if a 1 = e then s 1 else 0) : ℝ) : EReal) := by
  unfold wtR zero
  pointwise [hI, hS, pick_apply]
  rw [Fin.sum_univ_two, EReal.coe_add]
  congr 1 <;> split <;> simp

theorem vecE_apply (b : FVec Ideal S8x128 .f32) (e : Nat) (he : e < 8) (n : Fin 2048) (i : Fin 8) (k : Fin 128) :
    vecE b e he (ix3 n i k) = b (ix2 ⟨e, he⟩ k) := by
  unfold vecE
  pointwise

theorem in_apply (v : FVec Ideal S2048x8x32 .f32) (w : FVec Ideal S8x32x128 .f32) (e : Nat) (he : e < 8) (n : Fin 2048) (i : Fin 8)
    (k : Fin 128) : (Host.dotGeneral dot_S2048x8x32_S32x128_S2048x8x128_2_0_01_1_n_n none v
      (shapeCast S32x128 (extractStridedSlice S1x32x128 ![e, 0, 0] w (slices_3 he)) shapeCasts_S1x32x128_S32x128) :
      FVec Ideal S2048x8x128 .f32) (ix3 n i k) = ∑ d, v (ix3 n i d) * w (ix3 ⟨e, he⟩ d k) := by
  pointwise

theorem sq_apply (h : FVec Ideal S2048x8x128 .f32) (w : FVec Ideal S8x128x128 .f32) (e : Nat) (he : e < 8) (n : Fin 2048) (i : Fin 8)
    (m : Fin 128) : (Host.dotGeneral dot_S2048x8x128_S128x128_S2048x8x128_2_0_01_1_n_n none h
      (shapeCast S128x128 (extractStridedSlice S1x128x128 ![e, 0, 0] w (slices_3 he)) shapeCasts_S1x128x128_S128x128) :
      FVec Ideal S2048x8x128 .f32) (ix3 n i m) = ∑ k, h (ix3 n i k) * w (ix3 ⟨e, he⟩ k m) := by
  pointwise

theorem last_apply (h : FVec Ideal S2048x8x128 .f32) (w : FVec Ideal S8x128x32 .f32) (e : Nat) (he : e < 8) (n : Fin 2048) (i : Fin 8)
    (d : Fin 32) : (Host.dotGeneral dot_S2048x8x128_S128x32_S2048x8x32_2_0_01_1_n_n none h
      (shapeCast S128x32 (extractStridedSlice S1x128x32 ![e, 0, 0] w (slices_3 he)) shapeCasts_S1x128x32_S128x32) :
      FVec Ideal S2048x8x32 .f32) (ix3 n i d) = ∑ m, h (ix3 n i m) * w (ix3 ⟨e, he⟩ m d) := by
  pointwise

theorem lastB_apply (b : FVec Ideal S8x32 .f32) (e : Nat) (he : e < 8) (n : Fin 2048) (i : Fin 8) (d : Fin 32) :
    chan (shapeCast S32 (extractStridedSlice S1x32 ![e, 0] b (slices_2 he)) shapeCasts_S1x32_S32) (ix3 n i d)
      = b (ix2 ⟨e, he⟩ d) := by
  rw [chan_apply]
  pointwise

theorem swish_apply (A : Args) (s : FVec Ideal S2048x8x128 .f32) (e : Nat) (he : e < 8) (n : Fin 2048) (i : Fin 8) (m : Fin 128) :
    swish A s e he (ix3 n i m) = s (ix3 n i m) * Ideal.div 1 (1 + Ideal.exp (-(A.ebeta (ix1 ⟨e, he⟩) * s (ix3 n i m)))) := by
  unfold swish ones
  pointwise

variable (A : Args) (hA : A.Reals) (v : FVec Ideal S2048x8x32 .f32) (a : Fin 32 → ℝ) (n : Fin 2048) (i : Fin 8)
  (hv : ∀ d, v (ix3 n i d) = ((a d : ℝ) : EReal)) (e : Nat) (he : e < 8)
include hA hv

theorem hidR_apply (k : Fin 128) : hidR A v e he (ix3 n i k) = ((hid A.wts ⟨e, he⟩ a k : ℝ) : EReal) := by
  unfold hidR
  rw [ValueIdx.addf_apply, in_apply _ _ e he, vecE_apply _ e he, sum_mul_coe hv (fun d => hA.ew1 _), hA.eb1, ← EReal.coe_add]
  rfl

theorem sxR_apply (m : Fin 128) : sqR A.esw A.esb (hidR A v e he) e he (ix3 n i m) = ((sx A.wts ⟨e, he⟩ a m : ℝ) : EReal) := by
  unfold sqR
  rw [ValueIdx.addf_apply, sq_apply _ _ e he, vecE_apply _ e he, sum_mul_coe (hidR_apply A hA v a n i hv e he) (fun d => hA.esw _), hA.esb,
    ← EReal.coe_add]
  rfl

theorem glR_apply (m : Fin 128) : sqR A.egw A.egb (hidR A v e he) e he (ix3 n i m) = ((gl A.wts ⟨e, he⟩ a m : ℝ) : EReal) := by
  unfold sqR
  rw [ValueIdx.addf_apply, sq_apply _ _ e he, vecE_apply _ e he, sum_mul_coe (hidR_apply A hA v a n i hv e he) (fun d => hA.egw _), hA.egb,
    ← EReal.coe_add]
  rfl

theorem swishR_apply (m : Fin 128) : swish A (sqR A.esw A.esb (hidR A v e he) e he) e he (ix3 n i m)
    = ((sx A.wts ⟨e, he⟩ a m * (1 / (1 + Real.exp (-(A.wts.ebeta ⟨e, he⟩ * sx A.wts ⟨e, he⟩ a m)))) : ℝ) : EReal) := by
  have hl := logistic_real (A.wts.ebeta ⟨e, he⟩ * sx A.wts ⟨e, he⟩ a m)
  unfold Ideal.logistic at hl
  rw [swish_apply, sxR_apply A hA v a n i hv e he, hA.ebeta, EReal.coe_mul, ← hl, EReal.coe_mul]
  rfl

/-- An expert of the reference is the expert over the reals. -/
theorem expertR_apply (d : Fin 32) : expertR A v e he (ix3 n i d) = ((expert A.wts ⟨e, he⟩ a d : ℝ) : EReal) := by
  have hg : ∀ m, mulf (swish A (sqR A.esw A.esb (hidR A v e he) e he) e he) (sqR A.egw A.egb (hidR A v e he) e he) (ix3 n i m)
      = ((gated A.wts ⟨e, he⟩ a m : ℝ) : EReal) := by
    intro m
    rw [ValueIdx.mulf_apply, swishR_apply A hA v a n i hv e he, glR_apply A hA v a n i hv e he, ← EReal.coe_mul]
    rfl
  unfold expertR
  rw [ValueIdx.addf_apply, last_apply _ _ e he, lastB_apply _ e he, sum_mul_coe hg (fun m => hA.ew2 _), hA.eb2, ← EReal.coe_add]
  rfl

/-- A weighted expert of the reference. -/
theorem moeR_apply (I : IVec S2048x8x2 32) (S : FVec Ideal S2048x8x2 .f32) (w : ℝ)
    (hw : wtR I S (BitVec.ofNat 32 e) (ix2 n i) = ((w : ℝ) : EReal)) (d : Fin 32) :
    moeR A v I S e he (ix3 n i d) = ((w * expert A.wts ⟨e, he⟩ a d : ℝ) : EReal) := by
  unfold moeR
  rw [ValueIdx.mulf_apply, wide_apply, expertR_apply A hA v a n i hv e he]
  pointwise [hw]
  rw [EReal.coe_mul]

omit hA hv in
/-- The weight of each expert from the logits over the reals. -/
theorem weight_apply (L : FVec Ideal S2048x8x8 .f32) (l : Fin 8 → Fin 8 → ℝ) (hL : ∀ i e, L (ix3 n i e) = ((l i e : ℝ) : EReal)) :
    wtR (topI L) (tokNorm (tokExp (topV L))) (BitVec.ofNat 32 e) (ix2 n i) = ((wt l i ⟨e, he⟩ : ℝ) : EReal) := by
  have hr : ∀ i, rank (fun e => L (ix3 n i e)) = sortedFrom (ahead (l i)) := fun i => rank_real (l i) _ (hL i)
  have h0 : ∀ i, topV L (ix3 n i 0) = ((l i (top1 (l i)) : ℝ) : EReal) := by
    intro i
    rw [topV_apply, hr, hL, ← sorted_top1]
    rfl
  have h1 : ∀ i, topV L (ix3 n i 1) = ((l i (top2 (l i)) : ℝ) : EReal) := by
    intro i
    rw [topV_apply, hr, hL, ← sorted_top2]
    rfl
  refine wtR_apply _ _ ⟨e, he⟩ n i ![top1 (l i), top2 (l i)] ![s1 l i, s2 l i] (fun r => ?_) (fun r => ?_)
  · match r with
    | 0 => rw [topI_apply, hr]; exact congrArg (fun k : Fin 8 => BitVec.ofNat 32 k.val) (sorted_top1 (l i))
    | 1 => rw [topI_apply, hr]; exact congrArg (fun k : Fin 8 => BitVec.ofNat 32 k.val) (sorted_top2 (l i))
  · match r with
    | 0 => exact tokSoft_apply _ n 0 _ h0 i
    | 1 => exact tokSoft_apply _ n 1 _ h1 i

omit hv in
/-- The reference's output over real arguments is the block's. -/
theorem outR_eq : outR A = A.out := by
  funext j
  obtain ⟨n, i, d, rfl⟩ : ∃ n i d, j = ix3 n i d := ⟨j 0, j 1, j 2, ValueIdx.eq_ix3 j⟩
  have one : ∀ (e : Nat) (he : e < 8), moeR A (t2R A) (topI (logitsR A)) (tokNorm (tokExp (topV (logitsR A)))) e he (ix3 n i d)
      = ((wt (logit A.wts (A.row n)) i ⟨e, he⟩ * expert A.wts ⟨e, he⟩ (t2 A.wts (A.row n) i) d : ℝ) : EReal) := fun e he =>
    moeR_apply A hA (t2R A) (t2 A.wts (A.row n) i) n i (fun d => t2R_apply A hA n i d) e he _ _ _
      (weight_apply n i e he (logitsR A) (logit A.wts (A.row n)) (fun i e => logitsR_apply A hA n i e)) d
  unfold outR mixR
  simp only [ValueIdx.addf_apply, one, xaR_apply A hA]
  have h0 : broadcastInDim S2048x8x32 ![] bcast_S_S2048x8x32 zero (ix3 n i d) = (0 : EReal) := Ideal.ofBits_zero .f32
  rw [h0, zero_add]
  simp only [← EReal.coe_add]
  show _ = ((out A.wts (A.row n) i d : ℝ) : EReal)
  unfold out
  rw [Fin.sum_univ_eight]
  rfl

end Cert.Block.R
-- ==== Proof.Frames.lean ====
/- The frames of the three programs, the two named constants, and the shape facts the precondition states. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Block

open Idealize.ShloMosaic Idealize.SL.Sem

/-- The side conditions the precondition's operations state: every one is decided by the shapes. -/
instance preFacts : Cert.Pre_finite.Facts where
  bcast_S_S2048x8x32 := by decide
  reducesTo_S2048x8x32_S_d0_1_2 := by decide
  h_S_ := by decide
  bcast_S_S32 := by decide
  reducesTo_S32_S_d0 := by decide
  bcast_S_S4x32x8 := by decide
  reducesTo_S4x32x8_S_d0_1_2 := by decide
  bcast_S_S4x2x32x8 := by decide
  reducesTo_S4x2x32x8_S_d0_1_2_3 := by decide
  bcast_S_S32x32 := by decide
  reducesTo_S32x32_S_d0_1 := by decide
  bcast_S_S32x8 := by decide
  reducesTo_S32x8_S_d0_1 := by decide
  bcast_S_S8 := by decide
  reducesTo_S8_S_d0 := by decide
  bcast_S_S8x32x128 := by decide
  reducesTo_S8x32x128_S_d0_1_2 := by decide
  bcast_S_S8x128 := by decide
  reducesTo_S8x128_S_d0_1 := by decide
  bcast_S_S8x128x128 := by decide
  reducesTo_S8x128x128_S_d0_1_2 := by decide
  bcast_S_S8x128x32 := by decide
  reducesTo_S8x128x32_S_d0_1_2 := by decide
  bcast_S_S8x32 := by decide
  reducesTo_S8x32_S_d0_1 := by decide

/-- Every execution of the kernel terminates, leaves the arguments unchanged and every counter at zero. -/
theorem frame_p : Cert.quiescent_Kernel := fun m ρ _ => Cert.Kernel.Gen.frame m ρ

/-- The same of the idealized kernel. -/
theorem frame_pi : Cert.quiescent_KernelIdeal := fun m ρ _ => Cert.KernelIdeal.Gen.frame m ρ

/-- The same of the idealized kernel from memories the precondition holds of. -/
theorem frame_pi_finite : Cert.quiescent_KernelIdeal_pre_finite := fun m ρ _ => Cert.KernelIdeal.Gen.frame m ρ

/-- The same of the idealized reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same of the idealized reference from memories the precondition holds of. -/
theorem frame_ri_finite : Cert.quiescent_ReferenceIdeal_pre_finite := fun m ρ _ => frame_ri m ρ trivial

/-- The two constants the idealized kernel names: the reciprocal of 31, and the mask of the attention scores and of
    the selected logit. -/
theorem preserves : Cert.preserves_Kernel_KernelIdeal :=
  ⟨IdealRules.named_const.statement Cert.KernelIdeal.κ "inv31" .f32 0x3D042108#32 ((31⁻¹ : ℝ) : EReal) rfl,
    IdealRules.named_const.statement Cert.KernelIdeal.κ "mask" .f32 0xFF61B1E6#32 ⊥ rfl⟩

end Cert.Block

end
-- ==== Proof.PreReal.lean ====
/- From the precondition: every element of every argument is a real. -/
module

public import proofs.«01_k».proof.Proof.Frames
public import proofs.«01_k».proof.Proof.Args
public import proofs.«01_k».proof.Proof.Consts
public import Idealize.ShloMosaic.Lib.ReduceAll
public import Idealize.ShloMosaic.Lib.Affine

@[expose] public section

set_option maxRecDepth 16384

noncomputable section

namespace Cert.Block

open Idealize.ShloMosaic Cert.Pre_finite Cert.Pre_finite.Facts

/-- Whether the magnitude of every element of an array lies below infinity, as the precondition computes it. -/
def allFin {s : Shape} {axes : List (Fin s.rank)} (hb : S_.BroadcastsInDim s (![] : Fin 0 → Fin s.rank))
    (hr : s.ReducesTo axes S_) (x : FVec Ideal s .f32) : IVec S_ 1 :=
  Host.reduce IntOp.andi (cmpf .olt (Host.absf x) (broadcastInDim s ![] hb (constant S_ .f32 0x7F800000#32)))
    (constantI S_ 1 1#1) hr h_S_

theorem real_of_lt (x : EReal) (h : max x (-x) < ⊤) : x = ((EReal.toReal x : ℝ) : EReal) := by
  have h1 : x ≠ ⊤ := fun e => by simp [e] at h
  have h2 : x ≠ ⊥ := fun e => by simp [e] at h
  exact (EReal.coe_toReal h1 h2).symm

/-- An array that passes is an array of reals. -/
theorem real_of_allFin {s : Shape} {axes : List (Fin s.rank)} (hb : S_.BroadcastsInDim s (![] : Fin 0 → Fin s.rank))
    (hr : s.ReducesTo axes S_) (x : FVec Ideal s .f32) (h : allFin hb hr x ix0 = 1#1) : Real' x := by
  intro i
  have hs : Subsingleton S_.Idx := ⟨fun a b => funext fun k => k.elim0⟩
  have e := Host.reduce_andi_all _ _ hr h_S_ ix0 h i
  have e' : Ideal.cmp .olt (max (x i) (-(x i))) (Ideal.ofBits .f32 0x7F800000#32) = 1#1 := e
  rw [ofBits_top] at e'
  refine real_of_lt (x i) ?_
  by_contra hn
  simp only [Ideal.cmp, hn, decide_false] at e'
  exact absurd e' (by decide)

theorem both {a b : IVec S_ 1} (h : andi a b ix0 = 1#1) : a ix0 = 1#1 ∧ b ix0 = 1#1 := IntOp.andi_eq_one.mp h

/-- Arguments the precondition holds of are arrays of reals. -/
theorem reals_of_pre (A : Args) (h : Cert.Pre_finite.fn (F := Ideal) A.x A.g1 A.b1 A.g2 A.b2 A.kw A.qw A.vw A.pw A.pb A.rw A.rb
    A.ew1 A.eb1 A.esw A.esb A.ebeta A.egw A.egb A.ew2 A.eb2 = fun _ => 1#1) : A.Reals := by
  have h : andi (andi (andi (andi (andi (andi (andi (andi (andi (andi (andi (andi (andi (andi (andi (andi (andi (andi (andi (andi
      (allFin bcast_S_S2048x8x32 reducesTo_S2048x8x32_S_d0_1_2 A.x)
      (allFin bcast_S_S32 reducesTo_S32_S_d0 A.g1)) (allFin bcast_S_S32 reducesTo_S32_S_d0 A.b1))
      (allFin bcast_S_S32 reducesTo_S32_S_d0 A.g2)) (allFin bcast_S_S32 reducesTo_S32_S_d0 A.b2))
      (allFin bcast_S_S4x32x8 reducesTo_S4x32x8_S_d0_1_2 A.kw)) (allFin bcast_S_S4x2x32x8 reducesTo_S4x2x32x8_S_d0_1_2_3 A.qw))
      (allFin bcast_S_S4x32x8 reducesTo_S4x32x8_S_d0_1_2 A.vw)) (allFin bcast_S_S32x32 reducesTo_S32x32_S_d0_1 A.pw))
      (allFin bcast_S_S32 reducesTo_S32_S_d0 A.pb)) (allFin bcast_S_S32x8 reducesTo_S32x8_S_d0_1 A.rw))
      (allFin bcast_S_S8 reducesTo_S8_S_d0 A.rb)) (allFin bcast_S_S8x32x128 reducesTo_S8x32x128_S_d0_1_2 A.ew1))
      (allFin bcast_S_S8x128 reducesTo_S8x128_S_d0_1 A.eb1)) (allFin bcast_S_S8x128x128 reducesTo_S8x128x128_S_d0_1_2 A.esw))
      (allFin bcast_S_S8x128 reducesTo_S8x128_S_d0_1 A.esb)) (allFin bcast_S_S8 reducesTo_S8_S_d0 A.ebeta))
      (allFin bcast_S_S8x128x128 reducesTo_S8x128x128_S_d0_1_2 A.egw)) (allFin bcast_S_S8x128 reducesTo_S8x128_S_d0_1 A.egb))
      (allFin bcast_S_S8x128x32 reducesTo_S8x128x32_S_d0_1_2 A.ew2)) (allFin bcast_S_S8x32 reducesTo_S8x32_S_d0_1 A.eb2) ix0
      = 1#1 := congrFun h ix0
  obtain ⟨h, h20⟩ := both h
  obtain ⟨h, h19⟩ := both h
  obtain ⟨h, h18⟩ := both h
  obtain ⟨h, h17⟩ := both h
  obtain ⟨h, h16⟩ := both h
  obtain ⟨h, h15⟩ := both h
  obtain ⟨h, h14⟩ := both h
  obtain ⟨h, h13⟩ := both h
  obtain ⟨h, h12⟩ := both h
  obtain ⟨h, h11⟩ := both h
  obtain ⟨h, h10⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h0, h1⟩ := both h
  exact ⟨real_of_allFin _ _ _ h0, real_of_allFin _ _ _ h1, real_of_allFin _ _ _ h2, real_of_allFin _ _ _ h3,
    real_of_allFin _ _ _ h4, real_of_allFin _ _ _ h5, real_of_allFin _ _ _ h6, real_of_allFin _ _ _ h7,
    real_of_allFin _ _ _ h8, real_of_allFin _ _ _ h9, real_of_allFin _ _ _ h10, real_of_allFin _ _ _ h11,
    real_of_allFin _ _ _ h12, real_of_allFin _ _ _ h13, real_of_allFin _ _ _ h14, real_of_allFin _ _ _ h15,
    real_of_allFin _ _ _ h16, real_of_allFin _ _ _ h17, real_of_allFin _ _ _ h18, real_of_allFin _ _ _ h19,
    real_of_allFin _ _ _ h20⟩

end Cert.Block
-- ==== Proof.Algebraic.lean ====
/- The algebraic claim: over reals the idealized kernel and the idealized reference leave one array. -/
module

public import proofs.«01_k».proof.Proof.KArray
public import proofs.«01_k».proof.Proof.RRouter
public import proofs.«01_k».proof.Proof.PreReal
public import Idealize.ShloMosaic.Lib.Claim

@[expose] public section

set_option maxRecDepth 16384

noncomputable section

namespace Cert.Block

open Idealize.ShloMosaic Idealize.SL.Sem

namespace R

open Cert.ReferenceIdeal

/-- The reference's arguments on a device. -/
def args (m : (ℓ : Loc nD τ sig) → Buf (Elt Ideal) ℓ) (c : Dev nD) : Args where
  x := m ((c.tc : Thread nD τ).loc main_arg0)
  g1 := m ((c.tc : Thread nD τ).loc main_arg1)
  b1 := m ((c.tc : Thread nD τ).loc main_arg2)
  g2 := m ((c.tc : Thread nD τ).loc main_arg3)
  b2 := m ((c.tc : Thread nD τ).loc main_arg4)
  kw := m ((c.tc : Thread nD τ).loc main_arg5)
  qw := m ((c.tc : Thread nD τ).loc main_arg6)
  vw := m ((c.tc : Thread nD τ).loc main_arg7)
  pw := m ((c.tc : Thread nD τ).loc main_arg8)
  pb := m ((c.tc : Thread nD τ).loc main_arg9)
  rw := m ((c.tc : Thread nD τ).loc main_arg10)
  rb := m ((c.tc : Thread nD τ).loc main_arg11)
  ew1 := m ((c.tc : Thread nD τ).loc main_arg12)
  eb1 := m ((c.tc : Thread nD τ).loc main_arg13)
  esw := m ((c.tc : Thread nD τ).loc main_arg14)
  esb := m ((c.tc : Thread nD τ).loc main_arg15)
  ebeta := m ((c.tc : Thread nD τ).loc main_arg16)
  egw := m ((c.tc : Thread nD τ).loc main_arg17)
  egb := m ((c.tc : Thread nD τ).loc main_arg18)
  ew2 := m ((c.tc : Thread nD τ).loc main_arg19)
  eb2 := m ((c.tc : Thread nD τ).loc main_arg20)

/-- Every run of the reference from arguments of reals ends with the block's output, its arguments unchanged. -/
theorem run (m : (ℓ : Loc nD τ sig) → Buf (Elt Ideal) ℓ) (ρ : Dev nD → PrngReg) (hA : ∀ c, (args m c).Reals) :
    θ_run defs (onTc (τ := τ) (main (F := Ideal))) ⟨m, fun _ => 0, ρ⟩ fun r => ∀ c : Dev nD,
      r.2.mem ((c.tc : Thread nD τ).loc main_v612) = (args m c).out :=
  (θ_run defs _ _).mono (fun _ h c => (h c).1.trans ((Read.val_main_v612_eq (F := Ideal) (StableHlo.launchContents m c)).trans
    ((v612_eq (args m c)).trans (outR_eq (args m c) (hA c))))) (Value.run (F := Ideal) m ρ)

end R

/-- From arguments of reals, alike for both, the idealized kernel and the idealized reference end with equal results and
    unchanged arguments. -/
theorem algebraic : Cert.algebraic_KernelIdeal_ReferenceIdeal_pre_finite := by
  intro m g m' g' hpre hagree
  have hA : ∀ c, (K.args m c).Reals := fun c => reals_of_pre (K.args m c) (hpre c)
  have hargs : ∀ c, R.args m' c = K.args m c := by
    intro c
    obtain ⟨e0, e1, e2, e3, e4, e5, e6, e7, e8, e9, e10, e11, e12, e13, e14, e15, e16, e17, e18, e19, e20⟩ := hagree c
    unfold R.args K.args
    congr 1
  have hA' : ∀ c, (R.args m' c).Reals := fun c => by rw [hargs]; exact hA c
  refine ⟨fun c => (K.args m c).out, ?_, ?_⟩
  · exact (θ_run _ _ _).mono (fun _ h c => ⟨h.1 c, h.2 c⟩) (θ_run_and (K.run m g hA) (Cert.KernelIdeal.Gen.unchanged m g))
  · refine (θ_run _ _ _).mono (fun _ h c => ⟨(h.1 c).trans ?_, (h.2 c).2⟩)
      (θ_run_and (R.run m' g' hA') (Cert.ReferenceIdeal.Value.run (F := Ideal) m' g'))
    rw [hargs]

end Cert.Block
-- ==== Proof.lean ====
module

public import proofs.«01_k».proof.Defs
public import proofs.«01_k».proof.Proof.Algebraic
public import proofs.«01_k».proof.Proof.Frames
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Block.preFacts,
    Cert.Block.frame_p, Cert.Block.frame_pi, Cert.Block.frame_pi_finite, Cert.Block.frame_ri, Cert.Block.frame_ri_finite,
    Cert.Block.preserves, Cert.Block.algebraic⟩

end Cert.Proof

end
